-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80_0) = v0 c
          ∧ r.2.mem ((c.tc : Thread Cert.ReferenceIdeal.nD Cert.ReferenceIdeal.τ).loc Cert.ReferenceIdeal.main_v80_1) = v1 c
          ∧ r.2.mem ((c.tc : Thread Cert.ReferenceIdeal.nD Cert.ReferenceIdeal.τ).loc Cert.ReferenceIdeal.main_v80_2) = v2 c
          ∧ r.2.mem ((c.tc : Thread Cert.ReferenceIdeal.nD Cert.ReferenceIdeal.τ).loc Cert.ReferenceIdeal.main_v80_3) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x5120 : Shape := ⟨3, ![3, 8192, 5120]⟩
abbrev S5120 : Shape := ⟨1, ![5120]⟩
abbrev S5120x7168 : Shape := ⟨2, ![5120, 7168]⟩
abbrev S7168 : Shape := ⟨1, ![7168]⟩
abbrev S3x8192 : Shape := ⟨2, ![3, 8192]⟩
abbrev S64 : Shape := ⟨1, ![64]⟩
abbrev S_ : Shape := ⟨0, ![]⟩
abbrev S128 : Shape := ⟨1, ![128]⟩
abbrev S1x128 : Shape := ⟨2, ![1, 128]⟩
abbrev S24576x1 : Shape := ⟨2, ![24576, 1]⟩
abbrev S24576x5120 : Shape := ⟨2, ![24576, 5120]⟩
abbrev S1x5120 : Shape := ⟨2, ![1, 5120]⟩
abbrev S1x7168 : Shape := ⟨2, ![1, 7168]⟩
abbrev S983040x128 : Shape := ⟨2, ![983040, 128]⟩
abbrev S196608x128 : Shape := ⟨2, ![196608, 128]⟩
abbrev S256x1 : Shape := ⟨2, ![256, 1]⟩
abbrev S256x5120 : Shape := ⟨2, ![256, 5120]⟩
abbrev S10240x128 : Shape := ⟨2, ![10240, 128]⟩
abbrev S2048x128 : Shape := ⟨2, ![2048, 128]⟩
abbrev S256x128 : Shape := ⟨2, ![256, 128]⟩
abbrev S32x5120 : Shape := ⟨2, ![32, 5120]⟩
abbrev S32 : Shape := ⟨1, ![32]⟩
abbrev S32x1 : Shape := ⟨2, ![32, 1]⟩
abbrev S5120x512 : Shape := ⟨2, ![5120, 512]⟩
abbrev S256x512 : Shape := ⟨2, ![256, 512]⟩
abbrev S1x512 : Shape := ⟨2, ![1, 512]⟩
abbrev S5120x128 : Shape := ⟨2, ![5120, 128]⟩
abbrev S5120x2x128 : Shape := ⟨3, ![5120, 2, 128]⟩
abbrev S256x2x128 : Shape := ⟨3, ![256, 2, 128]⟩
abbrev S256x1x128 : Shape := ⟨3, ![256, 1, 128]⟩
abbrev S1024x128 : Shape := ⟨2, ![1024, 128]⟩
abbrev S1024x2x128 : Shape := ⟨3, ![1024, 2, 128]⟩

abbrev nBuf : Space → Nat
  | .hbm => 30
  | .vmem => 20
  | .smem => 0
  | _ => 0

abbrev bufTy : (tb : Table) → Fin (tcTables nBuf tb) → BufTy
  | .hbm, ⟨0, _⟩ => ⟨S3x8192x5120, .bf16⟩
  | .hbm, ⟨1, _⟩ => ⟨S5120, .f32⟩
  | .hbm, ⟨2, _⟩ => ⟨S5120x7168, .fp8e4m3⟩
  | .hbm, ⟨3, _⟩ => ⟨S7168, .f32⟩
  | .hbm, ⟨4, _⟩ => ⟨S3x8192, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S24576x1, .i32⟩
  | .hbm, ⟨22, _⟩ => ⟨S24576x5120, .bf16⟩
  | .hbm, ⟨23, _⟩ => ⟨S1x5120, .f32⟩
  | .hbm, ⟨24, _⟩ => ⟨S1x7168, .f32⟩
  | .hbm, ⟨25, _⟩ => ⟨S983040x128, .bf16⟩
  | .hbm, ⟨26, _⟩ => ⟨S196608x128, .bf16⟩
  | .hbm, ⟨27, _⟩ => ⟨S196608x128, .bf16⟩
  | .hbm, ⟨28, _⟩ => ⟨S24576x5120, .fp8e4m3⟩
  | .hbm, ⟨29, _⟩ => ⟨S24576x1, .f32⟩
  | .local _ .vmem, ⟨0, _⟩ => ⟨S256x1, .i32⟩
  | .local _ .vmem, ⟨1, _⟩ => ⟨S256x1, .i32⟩
  | .local _ .vmem, ⟨2, _⟩ => ⟨S256x5120, .bf16⟩
  | .local _ .vmem, ⟨3, _⟩ => ⟨S256x5120, .bf16⟩
  | .local _ .vmem, ⟨4, _⟩ => ⟨S1x5120, .f32⟩
  | .local _ .vmem, ⟨5, _⟩ => ⟨S1x7168, .f32⟩
  | .local _ .vmem, ⟨6, _⟩ => ⟨S1x128, .f32⟩
  | .local _ .vmem, ⟨7, _⟩ => ⟨S10240x128, .bf16⟩
  | .local _ .vmem, ⟨8, _⟩ => ⟨S10240x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S256x5120, .fp8e4m3⟩
  | .local _ .vmem, ⟨14, _⟩ => ⟨S256x5120, .fp8e4m3⟩
  | .local _ .vmem, ⟨15, _⟩ => ⟨S256x1, .f32⟩
  | .local _ .vmem, ⟨16, _⟩ => ⟨S256x1, .f32⟩
  | .local _ .vmem, ⟨17, _⟩ => ⟨S5120x7168, .fp8e4m3⟩
  | .local _ .vmem, ⟨18, _⟩ => ⟨S256x128, .f32⟩
  | .local _ .vmem, ⟨19, _⟩ => ⟨S256x128, .f32⟩
  | _, _ => ⟨S3x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10240x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F]
-- ==== ReferenceIdeal.lean ====
abbrev S3x8192x5120 : Shape := ⟨3, ![3, 8192, 5120]⟩
abbrev S5120 : Shape := ⟨1, ![5120]⟩
abbrev S5120x7168 : Shape := ⟨2, ![5120, 7168]⟩
abbrev S7168 : Shape := ⟨1, ![7168]⟩
abbrev S3x8192 : Shape := ⟨2, ![3, 8192]⟩
abbrev S24576x5120 : Shape := ⟨2, ![24576, 5120]⟩
abbrev S_ : Shape := ⟨0, ![]⟩
abbrev S24576 : Shape := ⟨1, ![24576]⟩
abbrev S24576x1 : Shape := ⟨2, ![24576, 1]⟩
abbrev S1x5120 : Shape := ⟨2, ![1, 5120]⟩
abbrev S254 : Shape := ⟨1, ![254]⟩
abbrev S1x254 : Shape := ⟨2, ![1, 254]⟩
abbrev S24576x254 : Shape := ⟨2, ![24576, 254]⟩
abbrev S64 : Shape := ⟨1, ![64]⟩
abbrev S1x64 : Shape := ⟨2, ![1, 64]⟩
abbrev S24576x64 : Shape := ⟨2, ![24576, 64]⟩
abbrev S24576x128 : Shape := ⟨2, ![24576, 128]⟩
abbrev S1x7168 : Shape := ⟨2, ![1, 7168]⟩
abbrev S983040x128 : Shape := ⟨2, ![983040, 128]⟩
abbrev S196608x128 : Shape := ⟨2, ![196608, 128]⟩
abbrev S24576x7168 : Shape := ⟨2, ![24576, 7168]⟩
abbrev S24576x40x128 : Shape := ⟨3, ![24576, 40, 128]⟩
abbrev S24576x1024 : Shape := ⟨2, ![24576, 1024]⟩
abbrev S24576x8x128 : Shape := ⟨3, ![24576, 8, 128]⟩
abbrev S24576x40x64 : Shape := ⟨3, ![24576, 40, 64]⟩
abbrev S24576x1x128 : Shape := ⟨3, ![24576, 1, 128]⟩
abbrev S24576x8x64 : Shape := ⟨3, ![24576, 8, 64]⟩

abbrev nBuf : Space → Nat
  | .hbm => 136
  | .vmem => 10
  | .smem => 0
  | _ => 0

abbrev hbmTy0_0 (i : Nat) : BufTy := match i % 128 with
  | 0 => ⟨S3x8192x5120, .bf16⟩
  | 1 => ⟨S5120, .f32⟩
  | 2 => ⟨S5120x7168, .fp8e4m3⟩
  | 3 => ⟨S7168, .f32⟩
  | 4 => ⟨S3x8192, .i32⟩
  | 5 => ⟨S24576x5120, .bf16⟩
  | 6 => ⟨S24576x5120, .f32⟩
  | 7 => ⟨S24576x5120, .f32⟩
  | 8 => ⟨S_, .f32⟩
  | 9 => ⟨S24576, .f32⟩
  | 10 => ⟨S24576x1, .f32⟩
  | 11 => ⟨S_, .f32⟩
  | 12 => ⟨S24576x1, .f32⟩
  | 13 => ⟨S24576x1, .f32⟩
  | 14 => ⟨S_, .f32⟩
  | 15 => ⟨S24576x1, .f32⟩
  | 16 => ⟨S24576x1, .f32⟩
  | 17 => ⟨S24576x1, .f32⟩
  | 18 => ⟨S24576x5120, .f32⟩
  | 19 => ⟨S24576x5120, .f32⟩
  | 20 => ⟨S1x5120, .f32⟩
  | 21 => ⟨S24576x5120, .f32⟩
  | 22 => ⟨S24576x5120, .f32⟩
  | 23 => ⟨S24576x5120, .f32⟩
  | 24 => ⟨S_, .f32⟩
  | 25 => ⟨S24576, .f32⟩
  | 26 => ⟨S24576x1, .f32⟩
  | 27 => ⟨S_, .f32⟩
  | 28 => ⟨S24576x1, .f32⟩
  | 29 => ⟨S24576x1, .f32⟩
  | 30 => ⟨S254, .f32⟩
  | 31 => ⟨S_, .f32⟩
  | 32 => ⟨S254, .f32⟩
  | 33 => ⟨S254, .f32⟩
  | 34 => ⟨S1x254, .f32⟩
  | 35 => ⟨S_, .f32⟩
  | 36 => ⟨S1x254, .f32⟩
  | 37 => ⟨S1x254, .f32⟩
  | 38 => ⟨S24576x254, .f32⟩
  | 39 => ⟨S24576x254, .f32⟩
  | 40 => ⟨S24576x254, .i1⟩
  | 41 => ⟨S_, .f32⟩
  | 42 => ⟨S_, .f32⟩
  | 43 => ⟨S24576x254, .f32⟩
  | 44 => ⟨S24576x254, .f32⟩
  | 45 => ⟨S24576x254, .f32⟩
  | 46 => ⟨S_, .f32⟩
  | 47 => ⟨S24576, .f32⟩
  | 48 => ⟨S24576x1, .f32⟩
  | 49 => ⟨S_, .f32⟩
  | 50 => ⟨S24576x1, .f32⟩
  | 51 => ⟨S24576x1, .f32⟩
  | 52 => ⟨S_, .f32⟩
  | 53 => ⟨S24576x1, .f32⟩
  | 54 => ⟨S24576x1, .i1⟩
  | 55 => ⟨S_, .f32⟩
  | 56 => ⟨S24576x1, .f32⟩
  | 57 => ⟨S24576x1, .i1⟩
  | 58 => ⟨S24576x1, .i1⟩
  | 59 => ⟨S_, .f32⟩
  | 60 => ⟨S_, .f32⟩
  | 61 => ⟨S24576x1, .f32⟩
  | 62 => ⟨S24576x1, .f32⟩
  | 63 => ⟨S_, .f32⟩
  | 64 => ⟨S24576x1, .f32⟩
  | 65 => ⟨S24576x1, .i1⟩
  | 66 => ⟨S_, .f32⟩
  | 67 => ⟨S24576x1, .f32⟩
  | 68 => ⟨S24576x1, .i1⟩
  | 69 => ⟨S_, .f32⟩
  | 70 => ⟨S24576x1, .f32⟩
  | 71 => ⟨S24576x1, .f32⟩
  | 72 => ⟨S_, .f32⟩
  | 73 => ⟨S_, .f32⟩
  | 74 => ⟨S24576x1, .f32⟩
  | 75 => ⟨S24576x1, .f32⟩
  | 76 => ⟨S_, .f32⟩
  | 77 => ⟨S_, .f32⟩
  | 78 => ⟨S24576x1, .f32⟩
  | 79 => ⟨S24576x1, .f32⟩
  | 80 => ⟨S24576x1, .f32⟩
  | 81 => ⟨S_, .f32⟩
  | 82 => ⟨S24576x1, .f32⟩
  | 83 => ⟨S24576x1, .i1⟩
  | 84 => ⟨S_, .f32⟩
  | 85 => ⟨S24576x1, .f32⟩
  | 86 => ⟨S24576x1, .i1⟩
  | 87 => ⟨S_, .f32⟩
  | 88 => ⟨S24576x1, .f32⟩
  | 89 => ⟨S24576x1, .f32⟩
  | 90 => ⟨S_, .f32⟩
  | 91 => ⟨S_, .f32⟩
  | 92 => ⟨S24576x1, .f32⟩
  | 93 => ⟨S24576x1, .f32⟩
  | 94 => ⟨S_, .f32⟩
  | 95 => ⟨S_, .f32⟩
  | 96 => ⟨S24576x1, .f32⟩
  | 97 => ⟨S24576x1, .f32⟩
  | 98 => ⟨S24576x5120, .f32⟩
  | 99 => ⟨S24576x5120, .f32⟩
  | 100 => ⟨S_, .f32⟩
  | 101 => ⟨S_, .f32⟩
  | 102 => ⟨S_, .f32⟩
  | 103 => ⟨S24576x5120, .f32⟩
  | 104 => ⟨S24576x5120, .f32⟩
  | 105 => ⟨S_, .f32⟩
  | 106 => ⟨S24576x5120, .f32⟩
  | 107 => ⟨S24576x5120, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S64, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S24576x1, .i32⟩
  | 123 => ⟨S24576x1, .f32⟩
  | 124 => ⟨S1x64, .f32⟩
  | 125 => ⟨S24576x64, .f32⟩
  | 126 => ⟨S24576x64, .f32⟩
  | 127 => ⟨S24576x64, .f32⟩
  | _ => ⟨S3x8192x5120, .bf16⟩

abbrev hbmTy0_1 (i : Nat) : BufTy := match i % 128 with
  | 0 => ⟨S24576x128, .f32⟩
  | 1 => ⟨S1x7168, .f32⟩
  | 2 => ⟨S24576x128, .f32⟩
  | 3 => ⟨S24576x128, .f32⟩
  | 4 => ⟨S983040x128, .bf16⟩
  | 5 => ⟨S196608x128, .bf16⟩
  | 6 => ⟨S196608x128, .bf16⟩
  | 7 => ⟨S24576x5120, .fp8e4m3⟩
  | _ => ⟨S3x8192x5120, .bf16⟩

abbrev hbmTy (i : Nat) : BufTy := match i / 128 with
  | 0 => hbmTy0_0 i
  | 1 => hbmTy0_1 i
  | _ => ⟨S3x8192x5120, .bf16⟩

abbrev bufTy : (tb : Table) → Fin (tcTables nBuf tb) → BufTy
  | .hbm, ⟨i, _⟩ => hbmTy i
  | .local _ .vmem, ⟨0, _⟩ => ⟨S24576x5120, .f32⟩
  | .local _ .vmem, ⟨1, _⟩ => ⟨S5120x7168, .fp8e4m3⟩
  | .local _ .vmem, ⟨2, _⟩ => ⟨S24576x1, .f32⟩
  | .local _ .vmem, ⟨3, _⟩ => ⟨S1x7168, .f32⟩
  | .local _ .vmem, ⟨4, _⟩ => ⟨S24576x128, .f32⟩
  | .local _ .vmem, ⟨5, _⟩ => ⟨S24576x128, .f32⟩
  | .local _ .vmem, ⟨6, _⟩ => ⟨S983040x128, .bf16⟩
  | .local _ .vmem, ⟨7, _⟩ => ⟨S196608x128, .bf16⟩
  | .local _ .vmem, ⟨8, _⟩ => ⟨S196608x128, .bf16⟩
  | .local _ .vmem, ⟨9, _⟩ => ⟨S24576x5120, .fp8e4m3⟩
  | _, _ => ⟨S3x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_cst_15 : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_cst_16 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_v48 : Ref sig .tc := ⟨.hbm, 80, rfl⟩
abbrev main_cst_17 : Ref sig .tc := ⟨.hbm, 81, rfl⟩
abbrev main_v49 : Ref sig .tc := ⟨.hbm, 82, rfl⟩
abbrev main_v50 : Ref sig .tc := ⟨.hbm, 83, rfl⟩
abbrev main_cst_18 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_cst_20 : Ref sig .tc := ⟨.hbm, 90, rfl⟩
abbrev main_call4_v0 : Ref sig .tc := ⟨.hbm, 91, rfl⟩
abbrev main_call4_v1 : Ref sig .tc := ⟨.hbm, 92, rfl⟩
abbrev main_v55 : Ref sig .tc := ⟨.hbm, 93, rfl⟩
abbrev main_cst_21 : Ref sig .tc := ⟨.hbm, 94, rfl⟩
abbrev main_call5_v0 : Ref sig .tc := ⟨.hbm, 95, rfl⟩
abbrev main_call5_v1 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_22 : Ref sig .tc := ⟨.hbm, 100, rfl⟩
abbrev main_cst_23 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_v59 : Ref sig .tc := ⟨.hbm, 107, rfl⟩
abbrev main_v60 : Ref sig .tc := ⟨.hbm, 108, rfl⟩
abbrev main_cst_24 : Ref sig .tc := ⟨.hbm, 109, rfl⟩
abbrev main_v61 : Ref sig .tc := ⟨.hbm, 110, rfl⟩
abbrev main_v62 : Ref sig .tc := ⟨.hbm, 111, rfl⟩
abbrev main_cst_25 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_26 : Ref sig .tc := ⟨.hbm, 116, rfl⟩
abbrev main_v66 : Ref sig .tc := ⟨.hbm, 117, rfl⟩
abbrev main_v67 : Ref sig .tc := ⟨.hbm, 118, rfl⟩
abbrev main_cst_27 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80_0 : Ref sig .tc := ⟨.hbm, 132, rfl⟩
abbrev main_v80_1 : Ref sig .tc := ⟨.hbm, 133, rfl⟩
abbrev main_v80_2 : Ref sig .tc := ⟨.hbm, 134, rfl⟩
abbrev main_v80_3 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S24576x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S983040x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S196608x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S196608x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BitsBody.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10240x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S5120x7168 .fp8e4m3 := Memref.whole cc0_scratch0
abbrev scM0_1 : Memref sig .tc .vmem S256x128 .f32 := Memref.whole cc0_scratch1
abbrev scM0_2 : Memref sig .tc .vmem S256x128 .f32 := Memref.whole cc0_scratch2
/-- The operands left in HBM that the body copies into scratch itself, whole. -/
abbrev hbM0_0 : Memref sig .tc .hbm S5120x7168 .fp8e4m3 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 17] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0) := by
  rw [Pipeline.ownSems0_eq_of_list c osem0 [0] (by decide) (by decide)]; rfl
/-- The HBM operands the body moves, as references: unscoped, no window's array (`Pipeline.restRefs`). -/
def H0 : Finset (Ref sig .tc) := {main_arg2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 17) 0) ∗ iprop(hbPt0 c hbM0_0 (V m c main_arg2))) := by
  rw [Pipeline.ΦD_eq, scopedRest0_eq, ownSems00_eq, hbmPts0_eq]; simp only [scM0_0, scM0_1, scM0_2, owns_whole]; try rfl

end Cert.Kernel.Body

end
-- ==== Proof.BitsBody.RunA.lean ====
module

public import proofs.«01_k».proof.Proof.BitsBody.Runs

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1764000 in
/-- The body's triple IN CASE A (`scf.if` 0 taken: points 0): on whole staging memrefs — the inputs' at their contents,
    the FORGOTTEN outputs' (5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : cond0_0 i)
    (x0 : Vec F S256x1 .i32) (x1 : Vec F S256x5120 .bf16) (x2 : Vec F S1x5120 .f32) (x3 : Vec F S1x7168 .f32) (x4 : Vec F S1x128 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 cc0_scratch3) K := by
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    rw [harg7.set_eq_univ, harg8.set_eq_univ, harg9.set_eq_univ]
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hq0, Hh0, HW, Hk⟩
    obtain rfl := harg1.eq_unread hf0; obtain rfl := harg2.eq_unread hf1; obtain rfl := harg3.eq_unread hf2; obtain rfl := harg4.eq_unread hf3; obtain rfl := harg5.eq_unread hf4
    clear hf0 hf1 hf2 hf3 hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.Kernel.Body

end
-- ==== Proof.BitsBody.RunB.lean ====
module

public import proofs.«01_k».proof.Proof.BitsBody.Runs

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1756000 in
/-- The body's triple IN CASE B (`scf.if` 0 not taken: points 1, 2, … 95: 95 of 96): on whole staging memrefs — the inputs' at their contents,
    the FORGOTTEN outputs' (5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : ¬cond0_0 i)
    (x0 : Vec F S256x1 .i32) (x1 : Vec F S256x5120 .bf16) (x2 : Vec F S1x5120 .f32) (x3 : Vec F S1x7168 .f32) (x4 : Vec F S1x128 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 cc0_scratch3) K := by
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    rw [harg7.set_eq_univ, harg8.set_eq_univ, harg9.set_eq_univ]
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hq0, Hh0, HW, Hk⟩
    obtain rfl := harg1.eq_unread hf0; obtain rfl := harg2.eq_unread hf1; obtain rfl := harg3.eq_unread hf2; obtain rfl := harg4.eq_unread hf3; obtain rfl := harg5.eq_unread hf4
    clear hf0 hf1 hf2 hf3 hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.Kernel.Body

end
-- ==== Proof.BitsBody.Frame.lean ====
module

public import proofs.«01_k».proof.Proof.BitsBody.RunA
public import proofs.«01_k».proof.Proof.BitsBody.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 96 := lt_of_lt_of_eq t.isLt (show cfg0.N = 96 from N_0)
  by_cases h0 : t.val % 96 = 0
  · iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_arg2)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, H8, H9, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (V m c main_arg2)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, H8, H9, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.IdealBody.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10240x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S5120x7168 .fp8e4m3 := Memref.whole cc0_scratch0
abbrev scM0_1 : Memref sig .tc .vmem S256x128 .f32 := Memref.whole cc0_scratch1
abbrev scM0_2 : Memref sig .tc .vmem S256x128 .f32 := Memref.whole cc0_scratch2
/-- The operands left in HBM that the body copies into scratch itself, whole. -/
abbrev hbM0_0 : Memref sig .tc .hbm S5120x7168 .fp8e4m3 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 17] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0) := by
  rw [Pipeline.ownSems0_eq_of_list c osem0 [0] (by decide) (by decide)]; rfl
/-- The HBM operands the body moves, as references: unscoped, no window's array (`Pipeline.restRefs`). -/
def H0 : Finset (Ref sig .tc) := {main_arg2}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 17) 0) ∗ iprop(hbPt0 c hbM0_0 (V m c main_arg2))) := by
  rw [Pipeline.ΦD_eq, scopedRest0_eq, ownSems00_eq, hbmPts0_eq]; simp only [scM0_0, scM0_1, scM0_2, owns_whole]; try rfl

end Cert.KernelIdeal.Body

end
-- ==== Proof.IdealBody.RunA.lean ====
module

public import proofs.«01_k».proof.Proof.IdealBody.Runs

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the first grid point, where it copies the weights into its scratch buffer: what it leaves in each output block and
    in that buffer (the first component) and its run from the blocks it is given (the second). -/
noncomputable def runA (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : cond0_0 i)
    (x0 : Vec F S256x1 .i32) (x1 : Vec F S256x5120 .bf16) (x2 : Vec F S1x5120 .f32) (x3 : Vec F S1x7168 .f32) (x4 : Vec F S1x128 .f32) (fh0 : HbBuf0 (F := F) c hbM0_0) (y7 : Vec F S10240x128 .bf16)  (y8 : Vec F S2048x128 .bf16)  (y9 : Vec F S2048x128 .bf16)  (y10 : Vec F S256x5120 .fp8e4m3)  (y11 : Vec F S256x1 .f32) (w : Vec F S5120x7168 .fp8e4m3) :
    { p : (Vec F S10240x128 .bf16) × (Vec F S2048x128 .bf16) × (Vec F S2048x128 .bf16) × (Vec F S256x5120 .fp8e4m3) × (Vec F S256x1 .f32) × (Vec F S5120x7168 .fp8e4m3) // ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare w ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare p.1 ∗ owns (c : Thread nD τ) arg8 fullShare p.2.1 ∗ owns (c : Thread nD τ) arg9 fullShare p.2.2.1 ∗ owns (c : Thread nD τ) arg10 fullShare p.2.2.2.1 ∗ owns (c : Thread nD τ) arg11 fullShare p.2.2.2.2.1 ∗ owns (c : Thread nD τ) arg12 fullShare p.2.2.2.2.2 ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 cc0_scratch3) K } := by
    refine ⟨(?_, ?_, ?_, ?_, ?_, ?_), ?_⟩
    case refine_7 =>
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    rw [harg7.set_eq_univ, harg8.set_eq_univ, harg9.set_eq_univ]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%ds1, %fs1, -, HS1⟩, ⟨%ds2, %fs2, -, HS2⟩, Hq0, Hh0, HW, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hfs0
    clear hf0 hf1 hf2 hf3 hf4 hf5 hf6 hf7 hf8 hf9 hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [HS0]
    · iexists _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.KernelIdeal.Body

end
-- ==== Proof.IdealBody.RunB.lean ====
module

public import proofs.«01_k».proof.Proof.IdealBody.Runs

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at a later grid point, the weights already in the scratch buffer: what it leaves in each output block (the first
    component) and its run from the blocks it is given (the second). -/
noncomputable def runB (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : ¬cond0_0 i)
    (x0 : Vec F S256x1 .i32) (x1 : Vec F S256x5120 .bf16) (x2 : Vec F S1x5120 .f32) (x3 : Vec F S1x7168 .f32) (x4 : Vec F S1x128 .f32) (fh0 : HbBuf0 (F := F) c hbM0_0) (y7 : Vec F S10240x128 .bf16)  (y8 : Vec F S2048x128 .bf16)  (y9 : Vec F S2048x128 .bf16)  (y10 : Vec F S256x5120 .fp8e4m3)  (y11 : Vec F S256x1 .f32) (w : Vec F S5120x7168 .fp8e4m3) :
    { p : (Vec F S10240x128 .bf16) × (Vec F S2048x128 .bf16) × (Vec F S2048x128 .bf16) × (Vec F S256x5120 .fp8e4m3) × (Vec F S256x1 .f32) // ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare w ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare p.1 ∗ owns (c : Thread nD τ) arg8 fullShare p.2.1 ∗ owns (c : Thread nD τ) arg9 fullShare p.2.2.1 ∗ owns (c : Thread nD τ) arg10 fullShare p.2.2.2.1 ∗ owns (c : Thread nD τ) arg11 fullShare p.2.2.2.2 ∗ owns (c : Thread nD τ) arg12 fullShare w ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 cc0_scratch3) K } := by
    refine ⟨(?_, ?_, ?_, ?_, ?_), ?_⟩
    case refine_6 =>
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    rw [harg7.set_eq_univ, harg8.set_eq_univ, harg9.set_eq_univ]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%ds1, %fs1, -, HS1⟩, ⟨%ds2, %fs2, -, HS2⟩, Hq0, Hh0, HW, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf5; obtain rfl := harg8.eq_unread hf6; obtain rfl := harg9.eq_unread hf7; obtain rfl := harg10.eq_unread hf8; obtain rfl := harg11.eq_unread hf9; obtain rfl := harg12.eq_unread hfs0
    clear hf0 hf1 hf2 hf3 hf4 hf5 hf6 hf7 hf8 hf9 hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [HS0]
    · iexists _; isplitr; swap; · iexact HS0
      ipureintro; exact harg12.read_unread _
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.KernelIdeal.Body

end
-- ==== Proof.Value.Scale.lean ====
module

public import Idealize.ShloMosaic.Lib.ValueIdx
public import Idealize.ShloMosaic.Lib.IdealHost
public import Idealize.ShloMosaic.Lib.KernelVsHost

/-!
  The power-of-two scale of one row, over the extended reals.

  The kernel finds the exponent by a binary search over the floats whose bits are `n` shifted left by 23, and builds
  the power of two from an integer's bits. The reference takes the largest exponent `k` with `2 ^ k ≤ y` and raises two
  to it. Here both are functions of the row's largest magnitude, and they are shown equal.
-/

@[expose] public section

set_option maxRecDepth 16384

noncomputable section

namespace Cert.Quant

open Idealize.ShloMosaic

/-- The number whose f32 bits are the word moved into the exponent field. -/
def word (t : BitVec 32) : EReal := Ideal.ofBits .f32 (IntOp.shli .vector t 23#32)

/-- The fields of such a word: no sign, the exponent `n`, no fraction. -/
theorem fields : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide

/-- The number itself: zero, a power of two, or infinity. -/
theorem word_eq (n : Nat) (h : n < 256) :
    word (BitVec.ofNat 32 n) = if n = 255 then ⊤ else if n = 0 then 0 else (((2 : ℝ) ^ ((n : Int) - 127) : ℝ) : EReal) := by
  obtain ⟨h1, h2, h3⟩ := fields ⟨n, h⟩
  dsimp only at h1 h2 h3
  show Ideal.ieee 8 23 (IntOp.shli .vector (BitVec.ofNat 32 n) 23#32) = _
  generalize IntOp.shli .vector (BitVec.ofNat 32 n) 23#32 = b at h1 h2 h3
  unfold Ideal.ieee
  dsimp only
  rw [h1, h2, h3]
  clear h1 h2 h3
  by_cases a : n = 255
  · simp [a]
  by_cases b : n = 0
  · simp [b]
  · simp only [a, b, if_false]
    norm_num
    rw [if_neg (by omega)]
    norm_cast
    rw [show (8388608 : ℝ) = (2 : ℝ) ^ (23 : Int) by norm_num, ← zpow_add₀ (by norm_num)]
    congr 1
    omega

/-- One rung of the search: `b + s` if the number with that exponent is at most `y`, else `b`. -/
def rung (y : EReal) (b s : BitVec 32) : BitVec 32 :=
  Scalar.select (Ideal.cmp .oge y (word (IntOp.addi b s))) (IntOp.addi b s) b

/-- The search, from the step 128 down to 1. -/
def ladder (y : EReal) : BitVec 32 :=
  rung y (rung y (rung y (rung y (rung y (rung y (rung y (rung y 0#32 128#32) 64#32) 32#32) 16#32) 8#32) 4#32) 2#32) 1#32

/-- What the search keeps: the number found is at most `y`, the one `R + 1` further above it. -/
def Holds (y : EReal) (R m : Nat) : Prop :=
  m + R ≤ 255 ∧ (m = 0 ∨ word (BitVec.ofNat 32 m) ≤ y) ∧ (m + R = 255 ∨ y < word (BitVec.ofNat 32 (m + R + 1)))

theorem rung_holds (y : EReal) (R m s : Nat) (hs : s = R + 1) (h : Holds y (s + R) m) :
    ∃ m', rung y (BitVec.ofNat 32 m) (BitVec.ofNat 32 s) = BitVec.ofNat 32 m' ∧ Holds y R m' := by
  obtain ⟨h1, h2, h3⟩ := h
  have e : IntOp.addi (BitVec.ofNat 32 m) (BitVec.ofNat 32 s) = BitVec.ofNat 32 (m + s) := (BitVec.ofNat_add m s).symm
  unfold rung Scalar.select Ideal.cmp
  rw [e]
  by_cases c : word (BitVec.ofNat 32 (m + s)) ≤ y
  · refine ⟨m + s, by simp [c], by omega, .inr c, ?_⟩
    rcases h3 with h3 | h3
    · exact .inl (by omega)
    · exact .inr (by rwa [show m + s + R + 1 = m + (s + R) + 1 by omega])
  · refine ⟨m, by simp [c], by omega, h2, .inr ?_⟩
    rw [show m + R + 1 = m + s by omega]
    exact not_le.mp c

/-- The search finds the last of the numbers that is at most `y`. -/
theorem ladder_spec (y : EReal) : ∃ n : Nat, ladder y = BitVec.ofNat 32 n ∧ n ≤ 255
    ∧ (n = 0 ∨ word (BitVec.ofNat 32 n) ≤ y) ∧ (n = 255 ∨ y < word (BitVec.ofNat 32 (n + 1))) := by
  have h0 : Holds y (128 + 127) 0 := ⟨by omega, .inl rfl, .inl rfl⟩
  obtain ⟨m1, e1, h1⟩ := rung_holds y 127 0 128 rfl h0
  obtain ⟨m2, e2, h2⟩ := rung_holds y 63 m1 64 rfl h1
  obtain ⟨m3, e3, h3⟩ := rung_holds y 31 m2 32 rfl h2
  obtain ⟨m4, e4, h4⟩ := rung_holds y 15 m3 16 rfl h3
  obtain ⟨m5, e5, h5⟩ := rung_holds y 7 m4 8 rfl h4
  obtain ⟨m6, e6, h6⟩ := rung_holds y 3 m5 4 rfl h5
  obtain ⟨m7, e7, h7⟩ := rung_holds y 1 m6 2 rfl h6
  obtain ⟨m8, e8, h8⟩ := rung_holds y 0 m7 1 rfl h7
  refine ⟨m8, ?_, by have := h8.1; omega, h8.2.1, h8.2.2⟩
  rw [← e8, ← e7, ← e6, ← e5, ← e4, ← e3, ← e2, ← e1]
  rfl

/-! ## The kernel's exponent and powers -/

/-- `amax / 448`, by the rounded reciprocal. -/
def yOf (a : EReal) : EReal := a * Ideal.ofBits .f32 0x3B124925#32

/-- The kernel's exponent of a row whose largest magnitude is `a`. -/
def expK (a : EReal) : BitVec 32 :=
  Scalar.select
    (IntOp.ori (IntOp.ori (IntOp.cmpi .eq (ladder (yOf a)) 0#32) (IntOp.cmpi .eq (ladder (yOf a)) 255#32))
      (Ideal.cmp .oeq a (Ideal.ofBits .f32 0#32)))
    0#32 (IntOp.subi (ladder (yOf a)) 126#32)

/-- The kernel's power of two. -/
def pow2K (n : BitVec 32) : EReal :=
  Scalar.select (IntOp.cmpi .sle (IntOp.addi 127#32 n) 0#32) (Ideal.ofBits .f32 0x00000000#32)
    (Scalar.select (IntOp.cmpi .sge (IntOp.addi 127#32 n) 255#32) (Ideal.ofBits .f32 0x7F800000#32) (word (IntOp.addi 127#32 n)))

/-- The row's scale and its inverse, as the kernel computes them. -/
def scaleK (a : EReal) : EReal := pow2K (expK a)
def invK (a : EReal) : EReal := pow2K (IntOp.subi 0#32 (expK a))

/-! ## The reference's exponent and powers -/

/-- The candidate exponents −126 … 127. -/
def cand (k : Fin 254) : EReal := Ideal.ofBits .f32 0xC2FC0000#32 + (((BitVec.ofNat 32 k.val).toInt : ℝ) : EReal)

/-- The reference's exponent of `y`. -/
def expR (y : EReal) : EReal :=
  Scalar.select (IntOp.ori (Ideal.cmp .olt y (Ideal.ofBits .f32 0x00800000#32)) (Ideal.cmp .oeq y (Ideal.ofBits .f32 0x7F800000#32)))
    (Ideal.ofBits .f32 0x00000000#32)
    ((Finset.univ : Finset (Fin 254)).fold max (Ideal.ofBits .f32 0xFF800000#32)
        (fun k => Scalar.select (Ideal.cmp .ole (Ideal.pow (Ideal.ofBits .f32 0x40000000#32) (cand k)) y) (cand k) (Ideal.ofBits .f32 0xC2FE0000#32))
      + Ideal.ofBits .f32 0x3F800000#32)

/-- The reference's power of two. -/
def pow2R (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32)
      (Ideal.pow (Ideal.ofBits .f32 0x40000000#32) e))

/-- The row's scale and its inverse, as the reference computes them. -/
def scaleR (a : EReal) : EReal := pow2R (expR (yOf a))
def invR (a : EReal) : EReal := pow2R (-(expR (yOf a)))

/-! ## They are equal -/

theorem bits_inf : Ideal.ofBits .f32 0x7F800000#32 = ⊤ := by simp [Ideal.ofBits, Ideal.ieee]
theorem bits_ninf : Ideal.ofBits .f32 0xFF800000#32 = ⊥ := by simp [Ideal.ofBits, Ideal.ieee]
theorem bits_zero : Ideal.ofBits .f32 0x00000000#32 = 0 := by simp [Ideal.ofBits, Ideal.ieee]
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num
theorem bits_n127 : Ideal.ofBits .f32 0xC2FE0000#32 = ((-127 : ℝ) : EReal) := by
  simp [Ideal.ofBits, Ideal.ieee, -EReal.coe_mul]; norm_num
theorem bits_n126 : Ideal.ofBits .f32 0xC2FC0000#32 = ((-126 : ℝ) : EReal) := by
  simp [Ideal.ofBits, Ideal.ieee, -EReal.coe_mul]; norm_num
theorem bits_min : Ideal.ofBits .f32 0x00800000#32 = (((2 : ℝ) ^ (-126 : Int) : ℝ) : EReal) := by
  have h := word_eq 1 (by omega)
  rw [if_neg (by omega), if_neg (by omega)] at h
  exact h

theorem pow_two (z : Int) : Ideal.pow ((2 : ℝ) : EReal) (((z : ℝ)) : EReal) = (((2 : ℝ) ^ z : ℝ) : EReal) := by
  show ((Real.rpow 2 (z : ℝ) : ℝ) : EReal) = _
  exact congrArg _ (Real.rpow_intCast 2 z)

/-- The power of two with the exponent `z`, as both sides mean it: zero below −126, infinity above 127. -/
def pow2 (z : Int) : EReal := if z > 127 then ⊤ else if z < -126 then 0 else (((2 : ℝ) ^ z : ℝ) : EReal)

theorem pow2R_eq (z : Int) : pow2R (((z : ℝ)) : EReal) = pow2 z := by
  unfold pow2R pow2 Scalar.select Ideal.cmp
  rw [bits_127, bits_n126, bits_two, bits_inf, bits_zero, pow_two]
  have c1 : (((127 : ℝ) : EReal) < ((z : ℝ) : EReal)) ↔ z > 127 := by
    rw [EReal.coe_lt_coe_iff]; constructor
    · intro h; exact_mod_cast h
    · intro h; exact_mod_cast h
  have c2 : (((z : ℝ) : EReal) < ((-126 : ℝ) : EReal)) ↔ z < -126 := by
    rw [EReal.coe_lt_coe_iff]; constructor
    · intro h; exact_mod_cast h
    · intro h; exact_mod_cast h
  simp only [c1, c2]
  by_cases a : z > 127
  · simp [a]
  · by_cases b : z < -126 <;> simp [a, b]

theorem pow2K_table : ∀ n : Fin 257,
    IntOp.addi 127#32 (BitVec.ofInt 32 ((n.val : Int) - 128)) = BitVec.ofInt 32 ((n.val : Int) - 1)
    ∧ (IntOp.cmpi .sle (BitVec.ofInt 32 ((n.val : Int) - 1)) 0#32 = if n.val ≤ 1 then 1 else 0)
    ∧ (IntOp.cmpi .sge (BitVec.ofInt 32 ((n.val : Int) - 1)) 255#32 = if 256 ≤ n.val then 1 else 0) := by
  decide

theorem pow2K_eq (z : Int) (h0 : -128 ≤ z) (h1 : z ≤ 128) : pow2K (BitVec.ofInt 32 z) = pow2 z := by
  obtain ⟨n, hn⟩ : ∃ n : Nat, (n : Int) = z + 128 := ⟨(z + 128).toNat, by omega⟩
  obtain rfl : z = (n : Int) - 128 := by omega
  obtain ⟨t1, t2, t3⟩ := pow2K_table ⟨n, by omega⟩
  simp only at t1 t2 t3
  unfold pow2K Scalar.select
  rw [t1, t2, t3, bits_zero, bits_inf]
  unfold pow2
  by_cases a : n ≤ 1
  · rw [if_pos (by simp [a]), if_neg (by omega), if_pos (by omega)]
  · rw [if_neg (by simp [a])]
    by_cases b : 256 ≤ n
    · rw [if_pos (by simp [b]), if_pos (by omega)]
    · rw [if_neg (by simp [b]), if_neg (by omega), if_neg (by omega)]
      have e : BitVec.ofInt 32 ((n : Int) - 1) = BitVec.ofNat 32 (n - 1) := by
        rw [show (n : Int) - 1 = ((n - 1 : Nat) : Int) by omega]; exact BitVec.ofInt_natCast 32 (n - 1)
      rw [e, word_eq _ (by omega), if_neg (by omega), if_neg (by omega)]
      rw [show ((n - 1 : Nat) : Int) - 127 = (n : Int) - 128 by omega]

theorem cand_eq (k : Fin 254) : cand k = ((((k.val : Int) - 126 : Int) : ℝ) : EReal) := by
  unfold cand
  have e : (BitVec.ofNat 32 k.val).toInt = (k.val : Int) := by
    have := k.isLt
    exact (show ∀ k : Fin 254, (BitVec.ofNat 32 k.val).toInt = (k.val : Int) by decide) k
  rw [e, bits_n126, ← EReal.coe_add]
  congr 1
  push_cast
  ring

/-- One exponent, as an integer, for both: what the kernel's word and the reference's float hold. -/
theorem exp_eq (a : EReal) : ∃ z : Int, -125 ≤ z ∧ z ≤ 128 ∧ expK a = BitVec.ofInt 32 z ∧ expR (yOf a) = (((z : ℝ)) : EReal) := by
  obtain ⟨n, hl, hn, lo, hi⟩ := ladder_spec (yOf a)
  have hmin : Ideal.ofBits .f32 0x00800000#32 = word (BitVec.ofNat 32 1) := rfl
  have htop : Ideal.ofBits .f32 0x7F800000#32 = word (BitVec.ofNat 32 255) := rfl
  have eqw : ∀ k : Fin 256, (IntOp.cmpi .eq (BitVec.ofNat 32 k.val) 0#32 = if k.val = 0 then 1 else 0)
      ∧ (IntOp.cmpi .eq (BitVec.ofNat 32 k.val) 255#32 = if k.val = 255 then 1 else 0)
      ∧ IntOp.subi (BitVec.ofNat 32 k.val) 126#32 = BitVec.ofInt 32 ((k.val : Int) - 126) := by decide
  obtain ⟨q1, q2, q3⟩ := eqw ⟨n, by omega⟩
  simp only at q1 q2 q3
  unfold expK expR
  rw [hl, q1, q2, q3, bits_two, bits_n127, bits_one, bits_ninf]
  have hy0 : a = 0 → yOf a = 0 := fun h => by rw [h]; exact zero_mul _
  generalize yOf a = y at *
  rcases Nat.eq_zero_or_pos n with h0 | h0
  · subst h0
    have c : y < Ideal.ofBits .f32 0x00800000#32 := by
      rcases hi with h | h
      · omega
      · exact h
    refine ⟨0, by omega, by omega, ?_, ?_⟩
    · rw [if_pos rfl]
      unfold Scalar.select
      rw [if_pos]
      · rfl
      · generalize (if (0 : Nat) = 255 then (1 : BitVec 1) else 0) = u
        generalize Ideal.cmp _ _ _ = v
        revert u v
        decide
    · unfold Scalar.select
      rw [if_pos, bits_zero]
      · simp
      · rw [show Ideal.cmp .olt y (Ideal.ofBits .f32 0x00800000#32) = 1 by unfold Ideal.cmp; simp [c]]
        generalize Ideal.cmp _ _ _ = v
        revert v
        decide
  · have lo' : word (BitVec.ofNat 32 n) ≤ y := by
      rcases lo with h | h
      · omega
      · exact h
    by_cases h255 : n = 255
    · subst h255
      have ht : y = ⊤ := by
        rw [word_eq 255 (by omega), if_pos rfl] at lo'
        exact top_le_iff.mp lo'
      refine ⟨0, by omega, by omega, ?_, ?_⟩
      · rw [if_pos rfl]
        unfold Scalar.select
        rw [if_pos]
        · rfl
        · generalize (if (255 : Nat) = 0 then (1 : BitVec 1) else 0) = u
          generalize Ideal.cmp _ _ _ = v
          revert u v
          decide
      · unfold Scalar.select
        rw [if_pos, bits_zero]
        · simp
        · rw [show Ideal.cmp .oeq y (Ideal.ofBits .f32 0x7F800000#32) = 1 by unfold Ideal.cmp; simp [ht, bits_inf]]
          generalize Ideal.cmp _ _ _ = v
          revert v
          decide
    · have hi' : y < word (BitVec.ofNat 32 (n + 1)) := by
        rcases hi with h | h
        · omega
        · exact h
      rw [word_eq n (by omega), if_neg h255, if_neg (by omega)] at lo'
      have hpos : (0 : EReal) < y := lt_of_lt_of_le (EReal.coe_pos.mpr (zpow_pos (by norm_num) _)) lo'
      have ha : a ≠ 0 := fun h => by rw [hy0 h] at hpos; exact lt_irrefl _ hpos
      have htop' : y ≠ ⊤ := fun h => by rw [h] at hi'; exact absurd hi' (not_lt.mpr le_top)
      refine ⟨(n : Int) - 126, by omega, by omega, ?_, ?_⟩
      · rw [if_neg (by omega), if_neg h255]
        unfold Scalar.select
        rw [if_neg]
        rw [show Ideal.cmp .oeq a (Ideal.ofBits .f32 0#32) = 0 by
          rw [show Ideal.ofBits .f32 0#32 = 0 from bits_zero]; unfold Ideal.cmp; simp [ha]]
        decide
      · unfold Scalar.select
        have c1 : ¬ y < Ideal.ofBits .f32 0x00800000#32 := by
          rw [bits_min]
          refine not_lt.mpr (le_trans ?_ lo')
          exact EReal.coe_le_coe_iff.mpr (zpow_le_zpow_right₀ (by norm_num : (1 : ℝ) ≤ 2) (by omega))
        rw [if_neg]
        · have key : (Finset.univ : Finset (Fin 254)).fold max (⊥ : EReal)
              (fun k => if Ideal.cmp .ole (Ideal.pow ((2 : ℝ) : EReal) (cand k)) y = 1 then cand k else ((-127 : ℝ) : EReal))
              = ((((n : Int) - 127 : Int) : ℝ) : EReal) := by
            apply le_antisymm
            · rw [Finset.fold_max_le]
              refine ⟨bot_le, fun k _ => ?_⟩
              rw [cand_eq, pow_two]
              by_cases hk : (((2 : ℝ) ^ ((k.val : Int) - 126) : ℝ) : EReal) ≤ y
              · rw [if_pos (by unfold Ideal.cmp; simp [hk])]
                rw [EReal.coe_le_coe_iff]
                have hkn : k.val < n := by
                  by_contra hge
                  have hlt := lt_of_le_of_lt hk hi'
                  have h254 : n + 1 ≠ 255 := by have := k.isLt; omega
                  rw [word_eq (n + 1) (by omega), if_neg h254, if_neg (by omega), EReal.coe_lt_coe_iff,
                    zpow_lt_zpow_iff_right₀ (by norm_num)] at hlt
                  push_cast at hlt
                  omega
                exact_mod_cast (by omega : (k.val : Int) - 126 ≤ (n : Int) - 127)
              · rw [if_neg (by unfold Ideal.cmp; simp [hk])]
                rw [EReal.coe_le_coe_iff]
                exact_mod_cast (by omega : (-127 : Int) ≤ (n : Int) - 127)
            · rw [Finset.le_fold_max]
              refine .inr ⟨⟨n - 1, by omega⟩, Finset.mem_univ _, ?_⟩
              have en : (((n - 1 : Nat) : Int) - 126) = (n : Int) - 127 := by omega
              rw [cand_eq, pow_two]
              dsimp only
              rw [en, if_pos (by unfold Ideal.cmp; simp [lo'])]
          rw [key, ← EReal.coe_add]
          congr 1
          push_cast
          ring
        · rw [show Ideal.cmp .olt y (Ideal.ofBits .f32 0x00800000#32) = 0 by unfold Ideal.cmp; simp [c1],
            show Ideal.cmp .oeq y (Ideal.ofBits .f32 0x7F800000#32) = 0 by unfold Ideal.cmp; simp [htop', bits_inf]]
          decide

/-- The two scales are equal, whatever the row's largest magnitude. -/
theorem scale_eq (a : EReal) : scaleK a = scaleR a := by
  obtain ⟨z, h0, h1, e, e'⟩ := exp_eq a
  unfold scaleK scaleR
  rw [e, e', pow2K_eq z (by omega) h1, pow2R_eq]

/-- So are the inverses. -/
theorem inv_eq (a : EReal) : invK a = invR a := by
  obtain ⟨z, h0, h1, e, e'⟩ := exp_eq a
  unfold invK invR
  have n : IntOp.subi 0#32 (BitVec.ofInt 32 z) = BitVec.ofInt 32 (-z) := by
    show 0#32 - BitVec.ofInt 32 z = _
    rw [BitVec.ofInt_neg]
    simp
  rw [e, e', n, pow2K_eq (-z) (by omega) (by omega), ← EReal.coe_neg, ← Int.cast_neg, pow2R_eq]

end Cert.Quant

end
-- ==== Proof.Value.Row.lean ====
module

public import proofs.«01_k».proof.Proof.Value.Scale

/-!
  One row, normalised and quantised, over the extended reals.
-/

@[expose] public section

noncomputable section

namespace Cert.Quant

open Idealize.ShloMosaic
open scoped BigOperators

/-- The row `x` times the reciprocal root of its mean square, times the gain. -/
def normR (x g : Fin 5120 → EReal) (j : Fin 5120) : EReal :=
  x j * Ideal.rsqrt (Ideal.div (∑ k : Fin 5120, x k * x k) (Ideal.ofBits .f32 0x45A00000#32) + Ideal.ofBits .f32 0x358637BD#32) * g j

/-- The largest magnitude of the normalised row. -/
def amaxR (x g : Fin 5120 → EReal) : EReal :=
  (Finset.univ : Finset (Fin 5120)).fold max (Ideal.ofBits .f32 0xFF800000#32) (fun j => max (normR x g j) (-(normR x g j)))

/-- The row's codes, given the inverse of its scale: the products clipped to ±448. -/
def codeWith (inv : EReal) (x g : Fin 5120 → EReal) (j : Fin 5120) : EReal :=
  min (Ideal.ofBits .f32 0x43E00000#32) (max (Ideal.ofBits .f32 0xC3E00000#32) (normR x g j * inv))

/-- The row's codes, by the reference's scale. -/
def codeR (x g : Fin 5120 → EReal) (j : Fin 5120) : EReal := codeWith (invR (amaxR x g)) x g j

/-- The row's scale, by the reference's rule. -/
def rowScale (x g : Fin 5120 → EReal) : EReal := scaleR (amaxR x g)

end Cert.Quant

end
-- ==== Proof.Value.Pair.lean ====
module

public import proofs.«01_k».proof.Proof.Gen.KernelIdeal.Skeleton
public import Idealize.ShloMosaic.Lib.MatmulPlain
public import Idealize.ShloMosaic.Lib.KernelVsHost
public import Idealize.ShloMosaic.Lib.ValueIdx
public import Idealize.ShloMosaic.Lib.ValueIdxCoords
public import Idealize.ShloMosaic.Lib.ValueLayout

/-!
  What one store of a pair of heads holds.

  The kernel multiplies a block of 256 rows of codes by 512 columns of the weights (four heads), scales the
  product, and stores the heads two by two, the rows of the two heads interleaved. Here the stored pair is written
  as one function of the codes, the weights, the scales and the rotary tables (`pairQ` with the rotation, `pairV`
  without), and read at one element over the extended reals.
-/

@[expose] public section

set_option maxRecDepth 16384

noncomputable section

namespace Cert.KernelIdeal.Val

open Idealize.ShloMosaic Idealize.ShloMosaic.ValueIdx Cert.KernelIdeal.Gen

section generic

variable {F : FTy → Type} [FloatOps F]

/-- Four heads of one block: the codes times 512 columns of the weights, times the row's scale, times the column's. -/
def grp (C : Vec F S256x5120 .fp8e4m3) (W : Vec F S5120x512 .fp8e4m3) (S : Vec F S256x1 .f32) (ws : Vec F S1x512 .f32) :
    FVec F S256x512 .f32 :=
  mulf (mulf (matmul dot_S256x5120_S5120x512_S256x512_1_0_0_1_n_n none
        (shapeCast S256x5120 C shapeCasts_S256x5120_S256x5120 : FVec F S256x5120 .fp8e4m3) W (constant S256x512 .f32 0x00000000#32))
      (broadcastTo S256x512 (shapeCast S256x1 S shapeCasts_S256x1_S256x1) broadcasts_S256x1_S256x512))
    (broadcastTo S256x512 (shapeCast S1x512 ws shapeCasts_S1x512_S1x512) broadcasts_S1x512_S256x512)

/-- The head at columns `o …` of the four, rotated. -/
def rotH (G : FVec F S256x512 .f32) (o : Nat) (h : S256x512.Slices ![0, o] S256x128) (cos sin : Vec F S256x128 .f32) :
    FVec F S256x128 .f32 :=
  addf (mulf (extractStridedSlice S256x128 ![0, o] G h) cos)
    (mulf (dynamicRotate 1 64#32 none (extractStridedSlice S256x128 ![0, o] G h) rotates_S256x128_d1) sin)

/-- Two heads rounded to bf16, their rows interleaved. -/
def pairOf (lo hi : FVec F S256x128 .f32) : Vec F S256x2x128 .bf16 :=
  interleaveRows S256x2x128
    (shapeCast S256x1x128 (truncf .bf16 lo : FVec F S256x128 .bf16) shapeCasts_S256x128_S256x1x128)
    (shapeCast S256x1x128 (truncf .bf16 hi : FVec F S256x128 .bf16) shapeCasts_S256x128_S256x1x128)
    bitcasts_S256x2x128_w16_S256x1x128_w32

/-- The stored pair of rotated heads at columns `o` and `o'` of the four. -/
def pairQ (G : FVec F S256x512 .f32) (o o' : Nat) (h : S256x512.Slices ![0, o] S256x128) (h' : S256x512.Slices ![0, o'] S256x128)
    (cos sin : Vec F S256x128 .f32) : Vec F S256x2x128 .bf16 :=
  pairOf (rotH G o h cos sin) (rotH G o' h' cos sin)

/-- The stored pair of heads at columns `o` and `o'` of the four, not rotated. -/
def pairV (G : FVec F S256x512 .f32) (o o' : Nat) (h : S256x512.Slices ![0, o] S256x128) (h' : S256x512.Slices ![0, o'] S256x128) :
    Vec F S256x2x128 .bf16 :=
  pairOf (extractStridedSlice S256x128 ![0, o] G h) (extractStridedSlice S256x128 ![0, o'] G h')

end generic

/-! ## Read at one element, over the extended reals -/

/-- One element of the scaled product. -/
theorem grp_apply (C : Vec Ideal S256x5120 .fp8e4m3) (W : Vec Ideal S5120x512 .fp8e4m3) (S : Vec Ideal S256x1 .f32)
    (ws : Vec Ideal S1x512 .f32) (r : Fin 256) (j : Fin 512) :
    grp (F := Ideal) C W S ws (ix2 r j) = (0 + ∑ k : Fin 5120, C (ix2 r k) * W (ix2 k j)) * S (ix2 r 0) * ws (ix2 0 j) := by
  unfold grp
  rw [mulf_apply, mulf_apply, broadcastTo_1b_ab_apply]
  have e1 : broadcastTo S256x512 (shapeCast S256x1 S shapeCasts_S256x1_S256x1) broadcasts_S256x1_S256x512 (ix2 r j) = S (ix2 r 0) := by
    rw [shapeCast_self]
    unfold broadcastTo
    congr 1
    funext a
    match a with
    | ⟨0, _⟩ => rfl
    | ⟨1, _⟩ => rfl
  rw [e1, shapeCast_self, shapeCast_self]
  have e2 := Ideal.matmul_plain_apply (M := 256) (K := 5120) (N := 512) (φ₁ := .fp8e4m3) (φ₂ := .fp8e4m3) none C W (constant S256x512 .f32 0x00000000#32) r j
  refine congrArg (fun t : EReal => t * S (ix2 r 0) * ws (ix2 0 j)) (e2.trans ?_)
  rw [constant_apply, Ideal.ofBits_zero_f32]

/-- The two heads of a stored pair, told apart by the middle coordinate. -/
theorem pairOf_apply (lo hi : FVec Ideal S256x128 .f32) (r : Fin 256) (b : Fin 2) (l : Fin 128) :
    pairOf (F := Ideal) lo hi (ix3 r b l) = if b.val = 0 then lo (ix2 r l) else hi (ix2 r l) := by
  have hc : ∀ x : FVec Ideal S256x128 .f32, shapeCast S256x1x128 (truncf .bf16 x : FVec Ideal S256x128 .bf16) shapeCasts_S256x128_S256x1x128
      (ix3 r (0 : Fin 1) l) = x (ix2 r l) := fun x =>
    (shapeCast_apply _ _ (ix3 r (0 : Fin 1) l) (ix2 r l) (by
      rw [Shape.rowMajor_val_two, Shape.rowMajor_val_three]
      show r.val * 128 + l.val = (r.val * 1 + 0) * 128 + l.val; omega)).trans rfl
  have hk : ∀ (x : S256x1x128.Idx → EReal) (j : S256x1x128.Idx), (∀ a, (j a).val = (ix3 r (0 : Fin 1) l a).val) → x j = x (ix3 r (0 : Fin 1) l) :=
    fun x j hj => congrArg x (funext fun a => Fin.ext (hj a))
  have hb : b.val / 2 = 0 := by omega
  unfold pairOf interleaveRows
  rw [← hc lo, ← hc hi]
  by_cases h0 : b.val = 0
  · rw [if_pos h0]
    refine (if_pos (show S256x2x128.row (ix3 r b l) % 2 = 0 from ?_)).trans (hk _ _ fun a => ?_)
    · show b.val % 2 = 0; omega
    · match a with
      | ⟨0, _⟩ => rfl
      | ⟨1, _⟩ => exact hb
      | ⟨2, _⟩ => rfl
  · rw [if_neg h0]
    refine (if_neg (show ¬ S256x2x128.row (ix3 r b l) % 2 = 0 from ?_)).trans (hk _ _ fun a => ?_)
    · show ¬ b.val % 2 = 0; omega
    · match a with
      | ⟨0, _⟩ => rfl
      | ⟨1, _⟩ => exact hb
      | ⟨2, _⟩ => rfl

/-- A rotated head at one element. -/
theorem rotH_apply (G : FVec Ideal S256x512 .f32) (o : Nat) (h : S256x512.Slices ![0, o] S256x128) (cos sin : Vec Ideal S256x128 .f32)
    (r : Fin 256) (l : Fin 128) (i j : Fin 512) (hi : i.val = o + l.val) (hj : j.val = o + (l.val + 64) % 128) :
    rotH (F := Ideal) G o h cos sin (ix2 r l) = G (ix2 r i) * cos (ix2 r l) + G (ix2 r j) * sin (ix2 r l) := by
  have hl : l.val < 128 := l.isLt
  unfold rotH
  rw [addf_apply, mulf_apply, mulf_apply, slice2_axis1_apply o G h r l i hi,
    dynamicRotate_apply (1 : Fin 2) 64#32 _ rotates_S256x128_d1 (ix2 r l) (ix2 r (⟨(l.val + 64) % 128, Nat.mod_lt _ (by omega)⟩ : Fin 128)) (by
      intro b
      match b with
      | ⟨0, _⟩ => rfl
      | ⟨1, _⟩ => show (l.val + 64) % 128 = (l.val + 128 - 64 % 128) % 128; omega),
    slice2_axis1_apply o G h r _ j hj]

end Cert.KernelIdeal.Val

end
-- ==== Proof.Value.Rows.lean ====
module

public import proofs.«01_k».proof.Proof.Value.Row
public import proofs.«01_k».proof.Proof.Value.Pair

/-!
  What the kernel computes of 32 rows: their codes and scales, row by row.
-/

@[expose] public section

set_option maxRecDepth 16384

noncomputable section

namespace Cert.KernelIdeal.Val

open Idealize.ShloMosaic Idealize.ShloMosaic.ValueIdx Cert.KernelIdeal.Gen Cert.Quant

section generic

variable {F : FTy → Type} [FloatOps F]

/-- The biased exponents of 32 rows. -/
def biased32 (X : Vec F S32x5120 .bf16) (G : Vec F S1x5120 .f32) : IVec S32x1 32 :=
  k0_pay8 (k0_pay5 X G) (k0_pay6 X G) k0_pay7

/-- The rows whose exponent is zero or all ones. -/
def flag32 (X : Vec F S32x5120 .bf16) (G : Vec F S1x5120 .f32) : IVec S32x1 1 :=
  k0_pay9 (k0_pay5 X G) (k0_pay6 X G) k0_pay7

/-- One rung of the search for 32 rows. -/
def rungV (y : FVec F S32x1 .f32) (b : IVec S32x1 32) (s : BitVec 32) : IVec S32x1 32 :=
  select (cmpf .oge y (bitcastToFloat .f32 (shli (addi b (broadcast S32x1 s)) (broadcast S32x1 23#32)))) (addi b (broadcast S32x1 s)) b

theorem pay6_eq (X : Vec F S32x5120 .bf16) (G : Vec F S1x5120 .f32) :
    k0_pay6 X G = rungV (k0_pay5 X G) (rungV (k0_pay5 X G) (broadcast S32x1 0#32) 128#32) 64#32 := rfl

theorem pay8_eq (y : FVec F S32x1 .f32) (b : IVec S32x1 32) :
    k0_pay8 y b k0_pay7 = rungV y (rungV y (rungV y (rungV y (rungV y (rungV y b 32#32) 16#32) 8#32) 4#32) 2#32) 1#32 := rfl

/-- The scales of 32 rows. -/
def scale32 (X : Vec F S32x5120 .bf16) (G : Vec F S1x5120 .f32) : FVec F S32x1 .f32 :=
  k0_pay11 (k0_pay4 X G) (biased32 X G) (flag32 X G) (FloatOps.ofBits .f32 0#32)

/-- The codes of 32 rows. -/
def codes32 (X : Vec F S32x5120 .bf16) (G : Vec F S1x5120 .f32) : FVec F S32x5120 .fp8e4m3 :=
  k0_pay12 (k0_pay3 X G) (k0_pay4 X G) (biased32 X G) (flag32 X G) (FloatOps.ofBits .f32 0#32)

end generic

theorem rungV_apply (y : FVec Ideal S32x1 .f32) (b : IVec S32x1 32) (s : BitVec 32) (i : S32x1.Idx) :
    rungV (F := Ideal) y b s i = rung (y i) (b i) s := rfl

theorem rsqrtI {s : Shape} {φ : FTy} (v : FVec Ideal s φ) (i : s.Idx) : rsqrt v i = Ideal.rsqrt (v i) := rfl
theorem divfI {s : Shape} {φ : FTy} (a b : FVec Ideal s φ) (i : s.Idx) : divf a b i = Ideal.div (a i) (b i) := rfl

variable (X : Vec Ideal S32x5120 .bf16) (G : Vec Ideal S1x5120 .f32)

/-- Row `r` of the block, and the gain, as functions of the column. -/
def rowOf (r : Fin 32) : Fin 5120 → EReal := fun k => X (ix2 r k)
def gainOf : Fin 5120 → EReal := fun k => G (ix2 0 k)

theorem bcast32 {α : Type} (v : S32x1.Idx → α) (r : Fin 32) (j : Fin 5120) :
    broadcastTo S32x5120 v broadcasts_S32x1_S32x5120 (ix2 r j) = v (ix2 r 0) := by
  unfold broadcastTo
  congr 1
  funext a
  match a with
  | ⟨0, _⟩ => rfl
  | ⟨1, _⟩ => rfl

theorem cast32 {α : Type} (v : S32.Idx → α) (r : Fin 32) :
    shapeCast S32x1 v shapeCasts_S32_S32x1 (ix2 r 0) = v (ix1 r) := by
  refine shapeCast_apply v shapeCasts_S32_S32x1 _ _ ?_
  simp [Shape.rowMajor_val_two, Shape.rowMajor_val_one, ix1, ix2]

theorem lift32 (r : Fin 32) (k : Fin 5120) : reduces_S32x5120_S32.lift (ix1 r) k = ix2 r k := by
  funext a
  match a with
  | ⟨0, _⟩ => rfl
  | ⟨1, _⟩ => rfl

/-- The normalised rows. -/
theorem norm_apply (r : Fin 32) (j : Fin 5120) : k0_pay3 (F := Ideal) X G (ix2 r j) = normR (rowOf X r) (gainOf G) j := by
  unfold k0_pay3 normR rowOf gainOf
  rw [mulf_apply, mulf_apply, broadcastTo_1b_ab_apply, bcast32, extf_apply, shapeCast_self, shapeCast_self, rsqrtI, addf_apply, divfI, cast32]
  have e := Ideal.multiReduction_add_single (mulf (extf .f32 X bitsLt_bf16_f32 : FVec Ideal S32x5120 .f32) (extf .f32 X bitsLt_bf16_f32)) 0x00000000#32 reduces_S32x5120_S32 (.inl rfl) rfl (ix1 r)
  have e' := e.trans (show _ = ∑ k : Fin 5120, X (ix2 r k) * X (ix2 r k) from Finset.sum_congr rfl fun (k : Fin 5120) _ =>
    congrArg (fun i => X i * X i) (lift32 r k))
  rw [e']
  rfl

/-- The largest magnitudes. -/
theorem amax_apply (r : Fin 32) : k0_pay4 (F := Ideal) X G (ix2 r 0) = amaxR (rowOf X r) (gainOf G) := by
  unfold k0_pay4 amaxR
  rw [cast32]
  have e := Ideal.multiReduction_maximumf_single (absf (k0_pay3 (F := Ideal) X G)) 0xFF800000#32 reduces_S32x5120_S32 (.inl rfl) rfl (ix1 r)
  rw [e]
  refine congrArg (fun f => Finset.fold max (Ideal.ofBits .f32 0xFF800000#32) f Finset.univ) (funext fun (k : Fin 5120) => ?_)
  show absf (k0_pay3 (F := Ideal) X G) (reduces_S32x5120_S32.lift (ix1 r) k) = _
  rw [lift32]
  show max (k0_pay3 (F := Ideal) X G (ix2 r k)) (-(k0_pay3 (F := Ideal) X G (ix2 r k))) = _
  rw [norm_apply]

/-- The biased exponents, by the search. -/
theorem biased_apply (r : Fin 32) : biased32 (F := Ideal) X G (ix2 r 0) = ladder (yOf (amaxR (rowOf X r) (gainOf G))) := by
  have hy : k0_pay5 (F := Ideal) X G (ix2 r 0) = yOf (amaxR (rowOf X r) (gainOf G)) := by
    rw [← amax_apply]; rfl
  unfold biased32 ladder
  rw [pay8_eq, pay6_eq]
  simp only [rungV_apply, hy]
  rfl

theorem flag_apply (r : Fin 32) : flag32 (F := Ideal) X G (ix2 r 0)
    = IntOp.ori (IntOp.cmpi .eq (biased32 (F := Ideal) X G (ix2 r 0)) 0#32) (IntOp.cmpi .eq (biased32 (F := Ideal) X G (ix2 r 0)) 255#32) := by
  unfold flag32 biased32 k0_pay9
  generalize k0_pay8 (F := Ideal) _ _ _ = b
  rfl

/-- The exponents. -/
theorem exp_apply (r : Fin 32) :
    k0_pay10 (F := Ideal) (k0_pay4 X G) (biased32 X G) (flag32 X G) (FloatOps.ofBits .f32 0#32) (ix2 r 0) = expK (amaxR (rowOf X r) (gainOf G)) := by
  unfold expK
  rw [← biased_apply, ← flag_apply, ← amax_apply]
  generalize flag32 (F := Ideal) X G = f
  generalize biased32 (F := Ideal) X G = b
  generalize k0_pay4 (F := Ideal) X G = a
  rfl

/-- The scales. -/
theorem scale32_apply (r : Fin 32) : scale32 (F := Ideal) X G (ix2 r 0) = rowScale (rowOf X r) (gainOf G) := by
  unfold rowScale
  rw [← scale_eq]
  unfold scaleK
  rw [← exp_apply]
  unfold scale32 k0_pay11 pow2K
  generalize k0_pay10 (F := Ideal) _ _ _ _ = e
  rfl

/-- The codes. -/
theorem codes32_apply (r : Fin 32) (j : Fin 5120) : codes32 (F := Ideal) X G (ix2 r j) = codeR (rowOf X r) (gainOf G) j := by
  unfold codeR codeWith
  rw [← inv_eq]
  unfold invK
  rw [← exp_apply, ← norm_apply]
  unfold codes32 k0_pay12
  rw [truncf_apply]
  refine (minimumf_apply _ _ _).trans (congrArg (min _) ((maximumf_apply _ _ _).trans (congrArg (max _) ((mulf_apply _ _ _).trans (congrArg _ ?_)))))
  rw [bcast32]
  unfold pow2K
  generalize k0_pay10 (F := Ideal) _ _ _ _ = e
  rfl

end Cert.KernelIdeal.Val

end
-- ==== Proof.Value.Store.lean ====
module

public import proofs.«01_k».proof.Proof.Value.Pair
public import Idealize.ShloMosaic.Lib.WholeRead
public import Idealize.ShloMosaic.Lib.Pipeline.FrameBody

/-!
  The strided stores of the pairs of heads.

  A block's results are stored pair by pair: pair `p` of row `r` goes to place `N · r + p` of the array of pairs, `N`
  the number of pairs of a row. Here: what the array of pairs holds after one more of these stores (`step`), what one
  stored element is in terms of all the weights (`pairQ_val`, `pairV_val`), and the loads of 512 columns of the
  weights and of their scales (`readW`, `readCovW`, `readS`).
-/

@[expose] public section

set_option maxRecDepth 16384

noncomputable section

namespace Cert.KernelIdeal.Val

open Idealize.ShloMosaic Idealize.ShloMosaic.ValueIdx Cert.KernelIdeal.Gen

/-- Column `n` of the 7168. -/
def col (n : Nat) : Fin 7168 := ⟨n % 7168, Nat.mod_lt _ (by omega)⟩

/-- One element of the whole product: row `r` of the codes times column `n` of the weights, times the row's scale,
    times the column's. -/
def prod (C : Vec Ideal S256x5120 .fp8e4m3) (S : Vec Ideal S256x1 .f32) (w : Vec Ideal S5120x7168 .fp8e4m3) (ws : Vec Ideal S1x7168 .f32)
    (r : Fin 256) (n : Fin 7168) : EReal :=
  (0 + ∑ k : Fin 5120, C (ix2 r k) * w (ix2 k n)) * S (ix2 r 0) * ws (ix2 0 n)

/-- Lane `l` of row `r` of head `b` of the pair that starts at column `o`, rotated. -/
def rotElt (C : Vec Ideal S256x5120 .fp8e4m3) (S : Vec Ideal S256x1 .f32) (w : Vec Ideal S5120x7168 .fp8e4m3) (ws : Vec Ideal S1x7168 .f32)
    (cos sin : Vec Ideal S256x128 .f32) (o : Nat) (r : Fin 256) (b : Fin 2) (l : Fin 128) : EReal :=
  prod C S w ws r (col (o + 128 * b.val + l.val)) * cos (ix2 r l)
    + prod C S w ws r (col (o + 128 * b.val + (l.val + 64) % 128)) * sin (ix2 r l)

/-- The same not rotated. -/
def plainElt (C : Vec Ideal S256x5120 .fp8e4m3) (S : Vec Ideal S256x1 .f32) (w : Vec Ideal S5120x7168 .fp8e4m3) (ws : Vec Ideal S1x7168 .f32)
    (o : Nat) (r : Fin 256) (b : Fin 2) (l : Fin 128) : EReal :=
  prod C S w ws r (col (o + 128 * b.val + l.val))

/-- An element of four heads of a block is one of the whole product. -/
theorem grp_val (C : Vec Ideal S256x5120 .fp8e4m3) (S : Vec Ideal S256x1 .f32) (w : Vec Ideal S5120x7168 .fp8e4m3) (ws : Vec Ideal S1x7168 .f32)
    (W : Vec Ideal S5120x512 .fp8e4m3) (wS : Vec Ideal S1x512 .f32) (g : Nat)
    (hW : ∀ k j, W (ix2 k j) = w (ix2 k (col (g + j.val)))) (hS : ∀ j, wS (ix2 0 j) = ws (ix2 0 (col (g + j.val))))
    (r : Fin 256) (j : Fin 512) : grp (F := Ideal) C W S wS (ix2 r j) = prod C S w ws r (col (g + j.val)) := by
  rw [grp_apply, prod, hS]
  simp only [hW]

/-- A stored pair of rotated heads at one element. -/
theorem pairQ_val {C : Vec Ideal S256x5120 .fp8e4m3} {S : Vec Ideal S256x1 .f32} {w : Vec Ideal S5120x7168 .fp8e4m3} {ws : Vec Ideal S1x7168 .f32}
    {W : Vec Ideal S5120x512 .fp8e4m3} {wS : Vec Ideal S1x512 .f32} {cos sin : Vec Ideal S256x128 .f32} (g : Nat)
    (hW : ∀ k j, W (ix2 k j) = w (ix2 k (col (g + j.val)))) (hS : ∀ j, wS (ix2 0 j) = ws (ix2 0 (col (g + j.val))))
    (o o' : Nat) (h : S256x512.Slices ![0, o] S256x128) (h' : S256x512.Slices ![0, o'] S256x128) (ho : o' = o + 128) (ho' : o + 256 ≤ 512)
    (q : Nat) (hq : q = g + o)
    (r : Fin 256) (b : Fin 2) (l : Fin 128) :
    pairQ (F := Ideal) (grp C W S wS) o o' h h' cos sin (ix3 r b l) = rotElt C S w ws cos sin q r b l := by
  subst ho hq
  have hl : l.val < 128 := l.isLt
  unfold pairQ rotElt
  rw [pairOf_apply]
  by_cases hb : b.val = 0
  · rw [if_pos hb, hb, rotH_apply _ _ _ _ _ r l ⟨o + l.val, by omega⟩ ⟨o + (l.val + 64) % 128, by omega⟩ rfl rfl,
      grp_val C S w ws W wS g hW hS, grp_val C S w ws W wS g hW hS]
    simp only [Nat.add_assoc, Nat.mul_zero, Nat.zero_add]
  · have hb1 : b.val = 1 := by omega
    rw [if_neg hb, hb1, rotH_apply _ _ _ _ _ r l ⟨o + 128 + l.val, by omega⟩ ⟨o + 128 + (l.val + 64) % 128, by omega⟩ rfl rfl,
      grp_val C S w ws W wS g hW hS, grp_val C S w ws W wS g hW hS]
    simp only [Nat.add_assoc, Nat.mul_one]

/-- A stored pair of heads not rotated, at one element. -/
theorem pairV_val {C : Vec Ideal S256x5120 .fp8e4m3} {S : Vec Ideal S256x1 .f32} {w : Vec Ideal S5120x7168 .fp8e4m3} {ws : Vec Ideal S1x7168 .f32}
    {W : Vec Ideal S5120x512 .fp8e4m3} {wS : Vec Ideal S1x512 .f32} (g : Nat)
    (hW : ∀ k j, W (ix2 k j) = w (ix2 k (col (g + j.val)))) (hS : ∀ j, wS (ix2 0 j) = ws (ix2 0 (col (g + j.val))))
    (o o' : Nat) (h : S256x512.Slices ![0, o] S256x128) (h' : S256x512.Slices ![0, o'] S256x128) (ho : o' = o + 128) (ho' : o + 256 ≤ 512)
    (q : Nat) (hq : q = g + o)
    (r : Fin 256) (b : Fin 2) (l : Fin 128) :
    pairV (F := Ideal) (grp C W S wS) o o' h h' (ix3 r b l) = plainElt C S w ws q r b l := by
  subst ho hq
  have hl : l.val < 128 := l.isLt
  unfold pairV plainElt
  rw [pairOf_apply]
  by_cases hb : b.val = 0
  · rw [if_pos hb, hb, slice2_axis1_apply o _ h r l ⟨o + l.val, by omega⟩ rfl, grp_val C S w ws W wS g hW hS]
    simp only [Nat.add_assoc, Nat.mul_zero, Nat.zero_add]
  · have hb1 : b.val = 1 := by omega
    rw [if_neg hb, hb1, slice2_axis1_apply (o + 128) _ h' r l ⟨o + 128 + l.val, by omega⟩ rfl, grp_val C S w ws W wS g hW hS]
    simp only [Nat.add_assoc, Nat.mul_one]

/-- After one more store of a pair, at place `k` of every row, the array of pairs holds the wanted values at the places
    up to it, if it did at the places before. -/
theorem step {sig : RefSig} {κ : Kind} {n N : Nat} (M : Memref sig κ .vmem ⟨3, ![n, 2, 128]⟩ .bf16) (k : Nat)
    (inb) (sp) (f : M.view.ty.Contents (Elt Ideal)) (v : Vec Ideal S256x2x128 .bf16)
    (Q : Nat → Fin 256 → Fin 2 → Fin 128 → EReal) (hn : n = 256 * N) (hk : k < N)
    (hf : ∀ (p : Nat) (hp : p < N) (r : Fin 256) (b : Fin 2) (l : Fin 128), p < k →
      View.read (Elt Ideal) M.view f (ix3 (⟨N * r.val + p, by rw [hn]; nlinarith [r.isLt]⟩ : Fin n) b l) = Q p r b l)
    (hv : ∀ (r : Fin 256) (b : Fin 2) (l : Fin 128), v (ix3 r b l) = Q k r b l) :
    ∀ (p : Nat) (hp : p < N) (r : Fin 256) (b : Fin 2) (l : Fin 128), p < k + 1 →
      View.read (Elt Ideal) M.view (View.write (Elt Ideal) (M.access ({ off := ![k, 0, 0], size := S256x2x128.size, stride := ![N, 1, 1], inb := inb, stride_pos := sp } : Rect ⟨3, ![n, 2, 128]⟩)) f v Finset.univ)
        (ix3 (⟨N * r.val + p, by rw [hn]; nlinarith [r.isLt]⟩ : Fin n) b l) = Q p r b l := by
  intro p hp r b l hpk
  have hemb : ∀ x : S256x2x128.Idx, ∀ a : Fin 3, (({ off := ![k, 0, 0], size := S256x2x128.size, stride := ![N, 1, 1], inb := inb, stride_pos := sp } : Rect ⟨3, ![n, 2, 128]⟩).emb x a).val
      = (![k, 0, 0] : Fin 3 → Nat) a + (![N, 1, 1] : Fin 3 → Nat) a * (x a).val := fun x a => rfl
  by_cases h : p = k
  · subst h
    have e : ({ off := ![p, 0, 0], size := S256x2x128.size, stride := ![N, 1, 1], inb := inb, stride_pos := sp } : Rect ⟨3, ![n, 2, 128]⟩).emb (ix3 r b l)
        = ix3 (⟨N * r.val + p, by rw [hn]; nlinarith [r.isLt]⟩ : Fin n) b l := by
      funext a
      apply Fin.ext
      rw [hemb]
      match a with
      | ⟨0, _⟩ => exact Nat.add_comm _ _
      | ⟨1, _⟩ => show 0 + 1 * b.val = b.val; omega
      | ⟨2, _⟩ => show 0 + 1 * l.val = l.val; omega
    have key := View.read_slice_write_emb (v := M.view) (Val := Elt Ideal) (({ off := ![p, 0, 0], size := S256x2x128.size, stride := ![N, 1, 1], inb := inb, stride_pos := sp } : Rect ⟨3, ![n, 2, 128]⟩)) f v (Finset.mem_univ (ix3 r b l))
    rw [e] at key
    exact key.trans (hv r b l)
  · rw [← hf p hp r b l (by omega)]
    have key := View.read_slice_write_of_not_mem (v := M.view) (Val := Elt Ideal) (({ off := ![k, 0, 0], size := S256x2x128.size, stride := ![N, 1, 1], inb := inb, stride_pos := sp } : Rect ⟨3, ![n, 2, 128]⟩)) f v Finset.univ
      (y := ix3 (⟨N * r.val + p, by rw [hn]; nlinarith [r.isLt]⟩ : Fin n) b l)
    refine key fun hm => ?_
    obtain ⟨x, -, hx⟩ := Finset.mem_map.mp hm
    have h0 := congrArg Fin.val (congrFun hx 0)
    rw [hemb] at h0
    have h0' : k + N * (x 0).val = N * r.val + p := h0
    have hx0 : (x 0).val < 256 := (x 0).isLt
    rcases Nat.lt_trichotomy (x 0).val r.val with h1 | h1 | h1
    · have : N * ((x 0).val + 1) ≤ N * r.val := Nat.mul_le_mul_left _ h1
      rw [Nat.mul_add] at this; omega
    · rw [h1] at h0'; omega
    · have : N * (r.val + 1) ≤ N * (x 0).val := Nat.mul_le_mul_left _ h1
      rw [Nat.mul_add] at this; omega

/-- A load of 512 columns of the weights reads them. -/
theorem readW {sig : RefSig} {κ : Kind} {m : Memref sig κ .vmem S5120x7168 .fp8e4m3} (hm : m.IsWhole) (w : Vec Ideal S5120x7168 .fp8e4m3)
    (o : Nat) (inb) (ho : o + 512 ≤ 7168) (k : Fin 5120) (j : Fin 512) :
    View.readAt (Elt Ideal) m.view (Rect.unit (s := S5120x7168) ![0, o] S5120x512.size inb).toLoadRect (hm.unread w) (ix2 k j) = w (ix2 k (col (o + j.val))) := by
  have hj := j.isLt
  refine (hm.readAt_unread w _ _).trans (congrArg w ?_)
  funext a
  apply Fin.ext
  match a with
  | ⟨0, _⟩ => show 0 + 1 * k.val = k.val; omega
  | ⟨1, _⟩ => show o + 1 * j.val = (o + j.val) % 7168; omega

/-- The same of a buffer just filled with the weights. -/
theorem readCovW {sig : RefSig} {κ : Kind} (m : Memref sig κ .vmem S5120x7168 .fp8e4m3) (w : Vec Ideal S5120x7168 .fp8e4m3)
    (o : Nat) (inb) (ho : o + 512 ≤ 7168) (k : Fin 5120) (j : Fin 512) :
    m.view.readCov (Val := Elt Ideal) [⟨Rect.whole S5120x7168, w⟩] (Rect.unit (s := S5120x7168) ![0, o] S5120x512.size inb).toLoadRect (ix2 k j) = w (ix2 k (col (o + j.val))) := by
  have hj := j.isLt
  unfold View.readCov
  refine (congrFun (View.read_writes_whole m.view m.view.junk w) _).trans (congrArg w ?_)
  funext a
  apply Fin.ext
  match a with
  | ⟨0, _⟩ => show 0 + 1 * k.val = k.val; omega
  | ⟨1, _⟩ => show o + 1 * j.val = (o + j.val) % 7168; omega

/-- A load of the scales of 512 columns reads them. -/
theorem readS {sig : RefSig} {κ : Kind} {m : Memref sig κ .vmem S1x7168 .f32} (hm : m.IsWhole) (w : Vec Ideal S1x7168 .f32)
    (o : Nat) (inb) (ho : o + 512 ≤ 7168) (j : Fin 512) :
    View.readAt (Elt Ideal) m.view (Rect.unit (s := S1x7168) ![0, o] S1x512.size inb).toLoadRect (hm.unread w) (ix2 0 j) = w (ix2 0 (col (o + j.val))) := by
  have hj := j.isLt
  refine (hm.readAt_unread w _ _).trans (congrArg w ?_)
  funext a
  apply Fin.ext
  match a with
  | ⟨0, _⟩ => rfl
  | ⟨1, _⟩ => show o + 1 * j.val = (o + j.val) % 7168; omega

end Cert.KernelIdeal.Val

end
-- ==== Proof.Value.Blocks.lean ====
module

public import proofs.«01_k».proof.Proof.Value.Rows
public import proofs.«01_k».proof.Proof.Value.Store
public import Idealize.ShloMosaic.Lib.Writes
public import Idealize.ShloMosaic.Lib.Pipeline.Value

/-!
  What one grid point stores of codes and scales, and its rotary tables.

  The codes and the scales of 256 rows are stored in eight strips of 32 rows (`codesL`, `scaleL`); read back, row `R`
  holds the codes and the scale of row `R` of the block. The tables of cosines and signed sines are stored whole
  (`cosL`, `sinL`).
-/

@[expose] public section

set_option maxRecDepth 16384

noncomputable section

namespace Cert.KernelIdeal.Val

open Idealize.ShloMosaic Idealize.ShloMosaic.TcCoe Idealize.ShloMosaic.ValueIdx Cert.KernelIdeal.Gen Cert.Quant

section generic

variable {F : FTy → Type} [FloatOps F] {sig : RefSig}

theorem inbX (o : Nat) (h : o + 32 ≤ 256) : ∀ a, (![o, 0] : Fin 2 → Nat) a + S32x5120.size a ≤ S256x5120.size a := by
  intro a
  match a with
  | ⟨0, _⟩ => exact h
  | ⟨1, _⟩ => exact Nat.le_of_eq (Nat.zero_add _)

theorem inbS (o : Nat) (h : o + 32 ≤ 256) : ∀ a, (![o, 0] : Fin 2 → Nat) a + S32x1.size a ≤ S256x1.size a := by
  intro a
  match a with
  | ⟨0, _⟩ => exact h
  | ⟨1, _⟩ => exact Nat.le_of_eq (Nat.zero_add _)

/-- Rows `o` … `o + 31` of the block of x. -/
def loadX (arg2 : Memref sig .tc .vmem S256x5120 .bf16) (harg2 : arg2.IsWhole) (x1 : Vec F S256x5120 .bf16) (o : Nat) (h : o + 32 ≤ 256) :
    Vec F S32x5120 .bf16 :=
  View.readAt (Elt F) arg2.view (Rect.unit (s := S256x5120) ![o, 0] S32x5120.size (inbX o h)).toLoadRect (harg2.unread x1)

/-- The gain. -/
def loadG (arg3 : Memref sig .tc .vmem S1x5120 .f32) (harg3 : arg3.IsWhole) (x2 : Vec F S1x5120 .f32) : Vec F S1x5120 .f32 :=
  View.readAt (Elt F) arg3.view (Rect.unit (s := S1x5120) ![0, 0] S1x5120.size inb_S1x5120_S1x5120_0_0).toLoadRect (harg3.unread x2)

variable (arg2 : Memref sig .tc .vmem S256x5120 .bf16) (harg2 : arg2.IsWhole) (arg3 : Memref sig .tc .vmem S1x5120 .f32) (harg3 : arg3.IsWhole)
  (x1 : Vec F S256x5120 .bf16) (x2 : Vec F S1x5120 .f32)

/-- One strip of codes. -/
def codesP (o : Nat) (h : o + 32 ≤ 256) : View.Piece (Elt F) S256x5120 .fp8e4m3 :=
  ⟨Rect.unit (s := S256x5120) ![o, 0] S32x5120.size (inbX o h), codes32 (loadX arg2 harg2 x1 o h) (loadG arg3 harg3 x2)⟩

/-- One strip of scales. -/
def scaleP (o : Nat) (h : o + 32 ≤ 256) : View.Piece (Elt F) S256x1 .f32 :=
  ⟨Rect.unit (s := S256x1) ![o, 0] S32x1.size (inbS o h), scale32 (loadX arg2 harg2 x1 o h) (loadG arg3 harg3 x2)⟩

/-- The eight strips of codes, the last one first. -/
def codesL : List (View.Piece (Elt F) S256x5120 .fp8e4m3) :=
  [codesP arg2 harg2 arg3 harg3 x1 x2 224 (by omega), codesP arg2 harg2 arg3 harg3 x1 x2 192 (by omega),
   codesP arg2 harg2 arg3 harg3 x1 x2 160 (by omega), codesP arg2 harg2 arg3 harg3 x1 x2 128 (by omega),
   codesP arg2 harg2 arg3 harg3 x1 x2 96 (by omega), codesP arg2 harg2 arg3 harg3 x1 x2 64 (by omega),
   codesP arg2 harg2 arg3 harg3 x1 x2 32 (by omega), codesP arg2 harg2 arg3 harg3 x1 x2 0 (by omega)]

/-- The eight strips of scales, the last one first. -/
def scaleL : List (View.Piece (Elt F) S256x1 .f32) :=
  [scaleP arg2 harg2 arg3 harg3 x1 x2 224 (by omega), scaleP arg2 harg2 arg3 harg3 x1 x2 192 (by omega),
   scaleP arg2 harg2 arg3 harg3 x1 x2 160 (by omega), scaleP arg2 harg2 arg3 harg3 x1 x2 128 (by omega),
   scaleP arg2 harg2 arg3 harg3 x1 x2 96 (by omega), scaleP arg2 harg2 arg3 harg3 x1 x2 64 (by omega),
   scaleP arg2 harg2 arg3 harg3 x1 x2 32 (by omega), scaleP arg2 harg2 arg3 harg3 x1 x2 0 (by omega)]

variable (arg1 : Memref sig .tc .vmem S256x1 .i32) (harg1 : arg1.IsWhole) (arg5 : Memref sig .tc .vmem S1x128 .f32) (harg5 : arg5.IsWhole)
  (x0 : Vec F S256x1 .i32) (x4 : Vec F S1x128 .f32)

/-- The positions and the frequencies. -/
def loadP : Vec F S256x1 .i32 :=
  View.readAt (Elt F) arg1.view (Rect.unit (s := S256x1) ![0, 0] S256x1.size inb_S256x1_S256x1_0_0).toLoadRect (harg1.unread x0)
def loadF : Vec F S1x128 .f32 :=
  View.readAt (Elt F) arg5.view (Rect.unit (s := S1x128) ![0, 0] S1x128.size inb_S1x128_S1x128_0_0).toLoadRect (harg5.unread x4)

/-- The table of cosines. -/
def cosL : List (View.Piece (Elt F) S256x128 .f32) :=
  [⟨Rect.unit (s := S256x128) ![0, 0] S256x128.size inb_S256x128_S256x128_0_0, k0_pay84 (loadP arg1 harg1 x0) (loadF arg5 harg5 x4)⟩]

/-- The table of signed sines. -/
def sinL : List (View.Piece (Elt F) S256x128 .f32) :=
  [⟨Rect.unit (s := S256x128) ![0, 0] S256x128.size inb_S256x128_S256x128_0_0, k0_pay85 (loadP arg1 harg1 x0) (loadF arg5 harg5 x4)⟩]

end generic

variable {sig : RefSig} (arg2 : Memref sig .tc .vmem S256x5120 .bf16) (harg2 : arg2.IsWhole) (arg3 : Memref sig .tc .vmem S1x5120 .f32) (harg3 : arg3.IsWhole)
  (x1 : Vec Ideal S256x5120 .bf16) (x2 : Vec Ideal S1x5120 .f32)

/-- Row `R` of the block of x, and the gain. -/
def xrow (x1 : Vec Ideal S256x5120 .bf16) (R : Fin 256) : Fin 5120 → EReal := fun k => x1 (ix2 R k)
def grow (x2 : Vec Ideal S1x5120 .f32) : Fin 5120 → EReal := fun k => x2 (ix2 0 k)

theorem rowOf_loadX (o : Nat) (h : o + 32 ≤ 256) (r : Fin 32) :
    rowOf (loadX arg2 harg2 x1 o h) r = xrow x1 ⟨o + r.val, by omega⟩ := by
  funext k
  refine (harg2.readAt_unread x1 _ _).trans (congrArg x1 ?_)
  funext a
  apply Fin.ext
  match a with
  | ⟨0, _⟩ => show o + 1 * r.val = o + r.val; omega
  | ⟨1, _⟩ => show 0 + 1 * k.val = k.val; omega

theorem gainOf_loadG : gainOf (loadG arg3 harg3 x2) = grow x2 := by
  funext k
  refine (harg3.readAt_unread x2 _ _).trans (congrArg x2 ?_)
  funext a
  apply Fin.ext
  match a with
  | ⟨0, _⟩ => rfl
  | ⟨1, _⟩ => show 0 + 1 * k.val = k.val; omega

/-- Row `o + r` lies in the strip at `o`, for either width. -/
theorem mem_strip {n : Nat} (o : Nat) (inb) (R : Fin 256) (j : Fin n) (h0 : o ≤ R.val) (h1 : R.val < o + 32) :
    (ix2 R j : (⟨2, ![256, n]⟩ : Shape).Idx) ∈ (Rect.unit (s := ⟨2, ![256, n]⟩) ![o, 0] (![32, n] : Fin 2 → Nat) inb).set := by
  have e : (Rect.unit (s := ⟨2, ![256, n]⟩) ![o, 0] (![32, n] : Fin 2 → Nat) inb).emb (ix2 (⟨R.val - o, by omega⟩ : Fin 32) j) = ix2 R j := by
    funext a
    apply Fin.ext
    match a with
    | ⟨0, _⟩ => show o + 1 * (R.val - o) = R.val; omega
    | ⟨1, _⟩ => show 0 + 1 * j.val = j.val; omega
  rw [← e, ← Rect.map_emb_univ]
  exact Finset.mem_map_of_mem _ (Finset.mem_univ _)

/-- Eight strips cover the block. -/
theorem strip_of (R : Fin 256) {P : Nat → Prop} (h : ∀ o, o ≤ R.val → R.val < o + 32 → P o → False)
    (h0 : P 224) (h1 : P 192) (h2 : P 160) (h3 : P 128) (h4 : P 96) (h5 : P 64) (h6 : P 32) (h7 : P 0) : False := by
  have hR := R.isLt
  by_cases c0 : 224 ≤ R.val; · exact h 224 c0 (by omega) h0
  by_cases c1 : 192 ≤ R.val; · exact h 192 c1 (by omega) h1
  by_cases c2 : 160 ≤ R.val; · exact h 160 c2 (by omega) h2
  by_cases c3 : 128 ≤ R.val; · exact h 128 c3 (by omega) h3
  by_cases c4 : 96 ≤ R.val; · exact h 96 c4 (by omega) h4
  by_cases c5 : 64 ≤ R.val; · exact h 64 c5 (by omega) h5
  by_cases c6 : 32 ≤ R.val; · exact h 32 c6 (by omega) h6
  exact h 0 (by omega) (by omega) h7

/-- Read back, row `R` of the codes is the quantised row `R`. -/
theorem read_codes (v : View sig .tc .vmem S256x5120 .fp8e4m3) (f) (R : Fin 256) (j : Fin 5120) :
    View.read (Elt Ideal) v (v.writes (Elt Ideal) f (codesL arg2 harg2 arg3 harg3 x1 x2)) (ix2 R j) = codeR (xrow x1 R) (grow x2) j := by
  have hP : ∀ (o : Nat) (h : o + 32 ≤ 256) (x : S32x5120.Idx), codes32 (F := Ideal) (loadX arg2 harg2 x1 o h) (loadG arg3 harg3 x2) x
      = (fun i : S256x5120.Idx => codeR (xrow x1 (i 0)) (grow x2) (i 1)) ((Rect.unit (s := S256x5120) ![o, 0] S32x5120.size (inbX o h)).emb x) := by
    intro o h x
    obtain ⟨r, k, rfl⟩ : ∃ (r : Fin 32) (k : Fin 5120), x = ix2 r k := ⟨x 0, x 1, eq_ix2 x⟩
    rw [codes32_apply, rowOf_loadX, gainOf_loadG]
    have e0 : (Rect.unit (s := S256x5120) ![o, 0] S32x5120.size (inbX o h)).emb (ix2 r k) = ix2 (⟨o + r.val, by omega⟩ : Fin 256) k := by
      funext a
      apply Fin.ext
      match a with
      | ⟨0, _⟩ => show o + 1 * r.val = o + r.val; omega
      | ⟨1, _⟩ => show 0 + 1 * k.val = k.val; omega
    rw [e0]
  refine View.read_writes_apply_of_pieces v f (fun i : S256x5120.Idx => codeR (xrow x1 (i 0)) (grow x2) (i 1)) _ ?_ (ix2 R j) ?_
  · intro p hp
    unfold codesL at hp
    simp only [List.mem_cons, List.not_mem_nil, or_false] at hp
    rcases hp with rfl | rfl | rfl | rfl | rfl | rfl | rfl | rfl <;> exact hP _ _
  · by_contra hn
    refine strip_of R (P := fun o => ∃ h : o + 32 ≤ 256, codesP arg2 harg2 arg3 harg3 x1 x2 o h ∈ codesL arg2 harg2 arg3 harg3 x1 x2) ?_ ?_ ?_ ?_ ?_ ?_ ?_ ?_ ?_
    · rintro o a b ⟨h, hm⟩
      exact hn ⟨_, hm, mem_strip o (inbX o h) R j a b⟩
    all_goals exact ⟨by omega, by unfold codesL; simp⟩

/-- Read back, row `R` of the scales is the scale of row `R`. -/
theorem read_scale (v : View sig .tc .vmem S256x1 .f32) (f) (R : Fin 256) :
    View.read (Elt Ideal) v (v.writes (Elt Ideal) f (scaleL arg2 harg2 arg3 harg3 x1 x2)) (ix2 R 0) = rowScale (xrow x1 R) (grow x2) := by
  have hP : ∀ (o : Nat) (h : o + 32 ≤ 256) (x : S32x1.Idx), scale32 (F := Ideal) (loadX arg2 harg2 x1 o h) (loadG arg3 harg3 x2) x
      = (fun i : S256x1.Idx => rowScale (xrow x1 (i 0)) (grow x2)) ((Rect.unit (s := S256x1) ![o, 0] S32x1.size (inbS o h)).emb x) := by
    intro o h x
    obtain ⟨r, rfl⟩ : ∃ (r : Fin 32), x = ix2 r (0 : Fin 1) := ⟨x 0, (eq_ix2 x).trans (congrArg (ix2 (x 0)) (Subsingleton.elim (α := Fin 1) _ _))⟩
    rw [scale32_apply, rowOf_loadX, gainOf_loadG]
    have e0 : (Rect.unit (s := S256x1) ![o, 0] S32x1.size (inbS o h)).emb (ix2 r (0 : Fin 1)) = ix2 (⟨o + r.val, by omega⟩ : Fin 256) (0 : Fin 1) := by
      funext a
      apply Fin.ext
      match a with
      | ⟨0, _⟩ => show o + 1 * r.val = o + r.val; omega
      | ⟨1, _⟩ => rfl
    rw [e0]
  refine View.read_writes_apply_of_pieces v f (fun i : S256x1.Idx => rowScale (xrow x1 (i 0)) (grow x2)) _ ?_ (ix2 R 0) ?_
  · intro p hp
    unfold scaleL at hp
    simp only [List.mem_cons, List.not_mem_nil, or_false] at hp
    rcases hp with rfl | rfl | rfl | rfl | rfl | rfl | rfl | rfl <;> exact hP _ _
  · by_contra hn
    refine strip_of R (P := fun o => ∃ h : o + 32 ≤ 256, scaleP arg2 harg2 arg3 harg3 x1 x2 o h ∈ scaleL arg2 harg2 arg3 harg3 x1 x2) ?_ ?_ ?_ ?_ ?_ ?_ ?_ ?_ ?_
    · rintro o a b ⟨h, hm⟩
      exact hn ⟨_, hm, mem_strip o (inbS o h) R 0 a b⟩
    all_goals exact ⟨by omega, by unfold scaleL; simp⟩

/-! ## The tables -/

variable (arg1 : Memref sig .tc .vmem S256x1 .i32) (harg1 : arg1.IsWhole) (arg5 : Memref sig .tc .vmem S1x128 .f32) (harg5 : arg5.IsWhole)
  (x0 : Vec Ideal S256x1 .i32) (x4 : Vec Ideal S1x128 .f32)

/-- The angle of row `r` at lane `l`. -/
def angle (x0 : Vec Ideal S256x1 .i32) (x4 : Vec Ideal S1x128 .f32) (r : Fin 256) (l : Fin 128) : EReal :=
  (((x0 (ix2 r 0)).toInt : ℝ) : EReal) * x4 (ix2 0 l)

theorem angle_apply (r : Fin 256) (l : Fin 128) :
    k0_pay83 (F := Ideal) (loadP arg1 harg1 x0) (loadF arg5 harg5 x4) (ix2 r l) = angle x0 x4 r l := by
  unfold k0_pay83 angle
  rw [mulf_apply, broadcastTo_1b_ab_apply, shapeCast_self, shapeCast_self]
  have e0 : loadP arg1 harg1 x0 (ix2 r 0) = x0 (ix2 r 0) := by
    refine (harg1.readAt_unread x0 _ _).trans (congrArg x0 ?_)
    funext a
    apply Fin.ext
    match a with
    | ⟨0, _⟩ => show 0 + 1 * r.val = r.val; omega
    | ⟨1, _⟩ => rfl
  have e1 : loadF arg5 harg5 x4 (ix2 0 l) = x4 (ix2 0 l) := by
    refine (harg5.readAt_unread x4 _ _).trans (congrArg x4 ?_)
    funext a
    apply Fin.ext
    match a with
    | ⟨0, _⟩ => rfl
    | ⟨1, _⟩ => show 0 + 1 * l.val = l.val; omega
  have e2 : broadcastTo S256x128 (sitofp .f32 (loadP arg1 harg1 x0) : FVec Ideal S256x1 .f32) broadcasts_S256x1_S256x128 (ix2 r l)
      = (sitofp .f32 (loadP arg1 harg1 x0) : FVec Ideal S256x1 .f32) (ix2 r 0) := by
    unfold broadcastTo
    congr 1
    funext a
    match a with
    | ⟨0, _⟩ => rfl
    | ⟨1, _⟩ => rfl
  rw [e1, e2, sitofp_apply, e0]
  rfl

/-- A whole block stored at once reads back as it is. -/
theorem read_whole128 (v : View sig .tc .vmem S256x128 .f32) (f) (w : Vec Ideal S256x128 .f32) (r : Fin 256) (l : Fin 128) :
    View.read (Elt Ideal) v (v.writes (Elt Ideal) f [⟨Rect.unit (s := S256x128) ![0, 0] S256x128.size inb_S256x128_S256x128_0_0, w⟩]) (ix2 r l) = w (ix2 r l) := by
  have e0 : ∀ x, (Rect.unit (s := S256x128) ![0, 0] S256x128.size inb_S256x128_S256x128_0_0).emb x = x := by
    intro x
    funext a
    apply Fin.ext
    match a with
    | ⟨0, _⟩ => show 0 + 1 * (x 0).val = (x 0).val; omega
    | ⟨1, _⟩ => show 0 + 1 * (x 1).val = (x 1).val; omega
  refine View.read_writes_apply_of_pieces v f w _ ?_ (ix2 r l) ?_
  · intro p hp
    simp only [List.mem_cons, List.not_mem_nil, or_false] at hp
    subst hp
    intro x
    exact congrArg w (e0 x).symm
  · refine ⟨_, List.mem_cons_self, ?_⟩
    rw [← Rect.map_emb_univ]
    exact Finset.mem_map.mpr ⟨ix2 r l, Finset.mem_univ _, e0 _⟩

/-- The table of cosines, read back. -/
theorem read_cos (v : View sig .tc .vmem S256x128 .f32) (f) (r : Fin 256) (l : Fin 128) :
    View.read (Elt Ideal) v (v.writes (Elt Ideal) f (cosL arg1 harg1 arg5 harg5 x0 x4)) (ix2 r l) = Ideal.cos (angle x0 x4 r l) := by
  refine (read_whole128 v f _ r l).trans ?_
  unfold k0_pay84
  rw [shapeCast_self, ← angle_apply arg1 harg1 arg5 harg5]
  rfl

/-- The table of sines: minus the sine in the lower half of the lanes. -/
theorem read_sin (v : View sig .tc .vmem S256x128 .f32) (f) (r : Fin 256) (l : Fin 128) :
    View.read (Elt Ideal) v (v.writes (Elt Ideal) f (sinL arg1 harg1 arg5 harg5 x0 x4)) (ix2 r l)
      = if l.val < 64 then 0 - Ideal.sin (angle x0 x4 r l) else Ideal.sin (angle x0 x4 r l) := by
  refine (read_whole128 v f _ r l).trans ?_
  unfold k0_pay85
  rw [shapeCast_self, ← angle_apply arg1 harg1 arg5 harg5, select_apply]
  generalize k0_pay83 (F := Ideal) (loadP arg1 harg1 x0) (loadF arg5 harg5 x4) = v
  have hc : (cmpi .slt (iota .tc S256x128 32 [1] iota_S256x128_d1_w32) (broadcast S256x128 64#32) : IVec S256x128 1) (ix2 r l) = if l.val < 64 then 1 else 0 := by
    have hl : (iota .tc S256x128 32 [1] iota_S256x128_d1_w32 : IVec S256x128 32) (ix2 r l) = BitVec.ofNat 32 l.val := iota_single_apply _ _ _ _ _ _
    show IntOp.cmpi .slt ((iota .tc S256x128 32 [1] iota_S256x128_d1_w32 : IVec S256x128 32) (ix2 r l)) 64#32 = _
    rw [hl]
    exact (show ∀ l : Fin 128, IntOp.cmpi .slt (BitVec.ofNat 32 l.val) 64#32 = if l.val < 64 then 1 else 0 by decide) l
  rw [hc]
  unfold Scalar.select
  by_cases c : l.val < 64
  · rw [if_pos (by simp [c]), if_pos c]
    show Ideal.ofBits .f32 0x00000000#32 - Ideal.sin (v (ix2 r l)) = _
    rw [bits_zero]
  · rw [if_neg (by simp [c]), if_neg c]
    rfl

end Cert.KernelIdeal.Val

end
-- ==== Proof.Value.Outs.lean ====
module

public import proofs.«01_k».proof.Proof.Value.Blocks

/-!
  The five blocks one grid point leaves, in closed form.

  `codesV`, `scaleV`: the codes and the scales of the point's 256 rows. `blockQ`, `blockK`, `blockV`: the heads, row
  `r`'s head `h` at place `heads · r + h`.
-/

@[expose] public section

set_option maxRecDepth 16384

noncomputable section

namespace Cert.KernelIdeal.Val

open Idealize.ShloMosaic Idealize.ShloMosaic.TcCoe Idealize.ShloMosaic.ValueIdx Cert.KernelIdeal.Gen Cert.Quant

def codesV (x1 : Vec Ideal S256x5120 .bf16) (x2 : Vec Ideal S1x5120 .f32) : Vec Ideal S256x5120 .fp8e4m3 :=
  fun i => codeR (xrow x1 (i 0)) (grow x2) (i 1)

def scaleV (x1 : Vec Ideal S256x5120 .bf16) (x2 : Vec Ideal S1x5120 .f32) : Vec Ideal S256x1 .f32 :=
  fun i => rowScale (xrow x1 (i 0)) (grow x2)

def cosV (x0 : Vec Ideal S256x1 .i32) (x4 : Vec Ideal S1x128 .f32) : Vec Ideal S256x128 .f32 :=
  fun i => Ideal.cos (angle x0 x4 (i 0) (i 1))

def sinV (x0 : Vec Ideal S256x1 .i32) (x4 : Vec Ideal S1x128 .f32) : Vec Ideal S256x128 .f32 :=
  fun i => if (i 1).val < 64 then 0 - Ideal.sin (angle x0 x4 (i 0) (i 1)) else Ideal.sin (angle x0 x4 (i 0) (i 1))

section blocks

variable (x0 : Vec Ideal S256x1 .i32) (x1 : Vec Ideal S256x5120 .bf16) (x2 : Vec Ideal S1x5120 .f32) (x3 : Vec Ideal S1x7168 .f32)
  (x4 : Vec Ideal S1x128 .f32) (w : Vec Ideal S5120x7168 .fp8e4m3)

/-- Lane `l` of row `r` of the head at column `o`, with the rotary embedding, -/
def headRot (o : Nat) (r : Fin 256) (l : Fin 128) : EReal :=
  rotElt (codesV x1 x2) (scaleV x1 x2) w x3 (cosV x0 x4) (sinV x0 x4) o r 0 l

/-- and without. -/
def headPlain (o : Nat) (r : Fin 256) (l : Fin 128) : EReal :=
  plainElt (codesV x1 x2) (scaleV x1 x2) w x3 o r 0 l

def blockQ : Vec Ideal S10240x128 .bf16 := fun i =>
  headRot x0 x1 x2 x3 x4 w (128 * ((i 0).val % 40)) ⟨(i 0).val / 40, Nat.div_lt_of_lt_mul (i 0).isLt⟩ (i 1)

def blockK : Vec Ideal S2048x128 .bf16 := fun i =>
  headRot x0 x1 x2 x3 x4 w (5120 + 128 * ((i 0).val % 8)) ⟨(i 0).val / 8, Nat.div_lt_of_lt_mul (i 0).isLt⟩ (i 1)

def blockV : Vec Ideal S2048x128 .bf16 := fun i =>
  headPlain x1 x2 x3 w (6144 + 128 * ((i 0).val % 8)) ⟨(i 0).val / 8, Nat.div_lt_of_lt_mul (i 0).isLt⟩ (i 1)

end blocks

/-- The second head of a pair is the head 128 columns on. -/
theorem rotElt_pair {C S w ws cos sin} (o : Nat) (r : Fin 256) (b : Fin 2) (l : Fin 128) :
    rotElt C S w ws cos sin o r b l = rotElt C S w ws cos sin (o + 128 * b.val) r 0 l := rfl
theorem plainElt_pair {C S w ws} (o : Nat) (r : Fin 256) (b : Fin 2) (l : Fin 128) :
    plainElt C S w ws o r b l = plainElt C S w ws (o + 128 * b.val) r 0 l := rfl

/-- A head array read through the array of pairs: pair `n`, parity `b` is head `2 n + b`. -/
theorem read_pairs {sig : RefSig} {n m : Nat} {e : EltTy} (v : View sig .tc .vmem ⟨2, ![m, 128]⟩ e) (f : v.ty.Contents (Elt Ideal))
    (h : (⟨3, ![n, 2, 128]⟩ : Shape).numel = (⟨2, ![m, 128]⟩ : Shape).numel) (R : Fin m) (a : Fin n) (b : Fin 2) (l : Fin 128) (hR : R.val = 2 * a.val + b.val) :
    View.read (Elt Ideal) v f (ix2 R l) = View.read (Elt Ideal) (v.reshape ⟨3, ![n, 2, 128]⟩ h) f (ix3 a b l) := by
  refine congrArg (View.read (Elt Ideal) v f) ?_
  refine (Shape.rowMajor _).injective ?_
  refine Fin.ext ?_
  refine Eq.trans ?_ (Shape.rowMajor_reshapeEquiv h (ix3 a b l)).symm
  rw [Shape.rowMajor_val_two, Shape.rowMajor_val_three]
  show R.val * 128 + l.val = (a.val * 2 + b.val) * 128 + l.val
  omega

section reads

variable (arg2 : Memref sig .tc .vmem S256x5120 .bf16) (harg2 : arg2.IsWhole) (arg3 : Memref sig .tc .vmem S1x5120 .f32) (harg3 : arg3.IsWhole)
  (x1 : Vec Ideal S256x5120 .bf16) (x2 : Vec Ideal S1x5120 .f32)

theorem codes_eq (v : View sig .tc .vmem S256x5120 .fp8e4m3) (f) :
    View.read (Elt Ideal) v (v.writes (Elt Ideal) f (codesL arg2 harg2 arg3 harg3 x1 x2)) = codesV x1 x2 := by
  funext i
  obtain ⟨r, j, rfl⟩ : ∃ (r : Fin 256) (j : Fin 5120), i = ix2 r j := ⟨i 0, i 1, eq_ix2 i⟩
  exact read_codes arg2 harg2 arg3 harg3 x1 x2 v f r j

theorem scale_eq (v : View sig .tc .vmem S256x1 .f32) (f) :
    View.read (Elt Ideal) v (v.writes (Elt Ideal) f (scaleL arg2 harg2 arg3 harg3 x1 x2)) = scaleV x1 x2 := by
  funext i
  obtain ⟨r, rfl⟩ : ∃ (r : Fin 256), i = ix2 r (0 : Fin 1) := ⟨i 0, (eq_ix2 i).trans (congrArg (ix2 (i 0)) (Subsingleton.elim (α := Fin 1) _ _))⟩
  exact read_scale arg2 harg2 arg3 harg3 x1 x2 v f r

/-- A load of a whole array is the array. -/
theorem readAt_whole2 {sig : RefSig} {m n : Nat} {e : EltTy} (v : View sig .tc .vmem ⟨2, ![m, n]⟩ e) (f : v.ty.Contents (Elt Ideal)) (inb) :
    View.readAt (Elt Ideal) v (Rect.unit (s := ⟨2, ![m, n]⟩) ![0, 0] (![m, n] : Fin 2 → Nat) inb).toLoadRect f = View.read (Elt Ideal) v f := by
  funext x
  refine congrArg (View.read (Elt Ideal) v f) ?_
  funext a
  apply Fin.ext
  match a with
  | ⟨0, _⟩ => show 0 + 1 * (x 0).val = (x 0).val; omega
  | ⟨1, _⟩ => show 0 + 1 * (x 1).val = (x 1).val; omega

theorem codes_cov (v : View sig .tc .vmem S256x5120 .fp8e4m3) :
    v.readCov (Val := Elt Ideal) (codesL arg2 harg2 arg3 harg3 x1 x2) (Rect.unit (s := S256x5120) ![0, 0] S256x5120.size inb_S256x5120_S256x5120_0_0).toLoadRect = codesV x1 x2 :=
  (readAt_whole2 v _ _).trans (codes_eq arg2 harg2 arg3 harg3 x1 x2 v _)

theorem scale_cov (v : View sig .tc .vmem S256x1 .f32) :
    v.readCov (Val := Elt Ideal) (scaleL arg2 harg2 arg3 harg3 x1 x2) (Rect.unit (s := S256x1) ![0, 0] S256x1.size inb_S256x1_S256x1_0_0).toLoadRect = scaleV x1 x2 :=
  (readAt_whole2 v _ _).trans (scale_eq arg2 harg2 arg3 harg3 x1 x2 v _)

variable (arg1 : Memref sig .tc .vmem S256x1 .i32) (harg1 : arg1.IsWhole) (arg5 : Memref sig .tc .vmem S1x128 .f32) (harg5 : arg5.IsWhole)
  (x0 : Vec Ideal S256x1 .i32) (x4 : Vec Ideal S1x128 .f32)

theorem cos_cov (v : View sig .tc .vmem S256x128 .f32) :
    v.readCov (Val := Elt Ideal) (cosL arg1 harg1 arg5 harg5 x0 x4) (Rect.unit (s := S256x128) ![0, 0] S256x128.size inb_S256x128_S256x128_0_0).toLoadRect = cosV x0 x4 := by
  refine (readAt_whole2 v _ _).trans ?_
  funext i
  obtain ⟨r, l, rfl⟩ : ∃ (r : Fin 256) (l : Fin 128), i = ix2 r l := ⟨i 0, i 1, eq_ix2 i⟩
  exact read_cos arg1 harg1 arg5 harg5 x0 x4 v _ r l

theorem sin_cov (v : View sig .tc .vmem S256x128 .f32) :
    v.readCov (Val := Elt Ideal) (sinL arg1 harg1 arg5 harg5 x0 x4) (Rect.unit (s := S256x128) ![0, 0] S256x128.size inb_S256x128_S256x128_0_0).toLoadRect = sinV x0 x4 := by
  refine (readAt_whole2 v _ _).trans ?_
  funext i
  obtain ⟨r, l, rfl⟩ : ∃ (r : Fin 256) (l : Fin 128), i = ix2 r l := ⟨i 0, i 1, eq_ix2 i⟩
  exact read_sin arg1 harg1 arg5 harg5 x0 x4 v _ r l

variable (x3 : Vec Ideal S1x7168 .f32) (w : Vec Ideal S5120x7168 .fp8e4m3)

/-- Pairs read as heads: the q block, -/
theorem blockQ_of (v : View sig .tc .vmem S10240x128 .bf16) (f : v.ty.Contents (Elt Ideal)) (h : S5120x2x128.numel = S10240x128.numel)
    (hp : ∀ (p : Nat) (hp : p < 20) (r : Fin 256) (b : Fin 2) (l : Fin 128), p < 20 →
      View.read (Elt Ideal) (v.reshape S5120x2x128 h) f (ix3 (⟨20 * r.val + p, by have := r.isLt; omega⟩ : Fin 5120) b l)
        = rotElt (codesV x1 x2) (scaleV x1 x2) w x3 (cosV x0 x4) (sinV x0 x4) (0 + 256 * p) r b l) :
    View.read (Elt Ideal) v f = blockQ x0 x1 x2 x3 x4 w := by
  funext i
  obtain ⟨R, l, rfl⟩ : ∃ (R : Fin 10240) (l : Fin 128), i = ix2 R l := ⟨i 0, i 1, eq_ix2 i⟩
  have hR := R.isLt
  have key := hp (R.val % 40 / 2) (by omega) ⟨R.val / 40, by omega⟩ ⟨R.val % 2, by omega⟩ l (by omega)
  refine (read_pairs v f h R _ ⟨R.val % 2, by omega⟩ l ?_).trans (key.trans ?_)
  · show R.val = 2 * (20 * (R.val / 40) + R.val % 40 / 2) + R.val % 2
    omega
  · rw [rotElt_pair]
    unfold blockQ headRot
    refine congrArg (fun o => rotElt (codesV x1 x2) (scaleV x1 x2) w x3 (cosV x0 x4) (sinV x0 x4) o _ 0 l) ?_
    show 0 + 256 * (R.val % 40 / 2) + 128 * (R.val % 2) = 128 * (R.val % 40)
    omega

/-- the k block, -/
theorem blockK_of (v : View sig .tc .vmem S2048x128 .bf16) (f : v.ty.Contents (Elt Ideal)) (h : S1024x2x128.numel = S2048x128.numel)
    (hp : ∀ (p : Nat) (hp : p < 4) (r : Fin 256) (b : Fin 2) (l : Fin 128), p < 4 →
      View.read (Elt Ideal) (v.reshape S1024x2x128 h) f (ix3 (⟨4 * r.val + p, by have := r.isLt; omega⟩ : Fin 1024) b l)
        = rotElt (codesV x1 x2) (scaleV x1 x2) w x3 (cosV x0 x4) (sinV x0 x4) (5120 + 256 * p) r b l) :
    View.read (Elt Ideal) v f = blockK x0 x1 x2 x3 x4 w := by
  funext i
  obtain ⟨R, l, rfl⟩ : ∃ (R : Fin 2048) (l : Fin 128), i = ix2 R l := ⟨i 0, i 1, eq_ix2 i⟩
  have hR := R.isLt
  have key := hp (R.val % 8 / 2) (by omega) ⟨R.val / 8, by omega⟩ ⟨R.val % 2, by omega⟩ l (by omega)
  refine (read_pairs v f h R _ ⟨R.val % 2, by omega⟩ l ?_).trans (key.trans ?_)
  · show R.val = 2 * (4 * (R.val / 8) + R.val % 8 / 2) + R.val % 2
    omega
  · rw [rotElt_pair]
    unfold blockK headRot
    refine congrArg (fun o => rotElt (codesV x1 x2) (scaleV x1 x2) w x3 (cosV x0 x4) (sinV x0 x4) o _ 0 l) ?_
    show 5120 + 256 * (R.val % 8 / 2) + 128 * (R.val % 2) = 5120 + 128 * (R.val % 8)
    omega

/-- the v block. -/
theorem blockV_of (v : View sig .tc .vmem S2048x128 .bf16) (f : v.ty.Contents (Elt Ideal)) (h : S1024x2x128.numel = S2048x128.numel)
    (hp : ∀ (p : Nat) (hp : p < 4) (r : Fin 256) (b : Fin 2) (l : Fin 128), p < 4 →
      View.read (Elt Ideal) (v.reshape S1024x2x128 h) f (ix3 (⟨4 * r.val + p, by have := r.isLt; omega⟩ : Fin 1024) b l)
        = plainElt (codesV x1 x2) (scaleV x1 x2) w x3 (6144 + 256 * p) r b l) :
    View.read (Elt Ideal) v f = blockV x1 x2 x3 w := by
  funext i
  obtain ⟨R, l, rfl⟩ : ∃ (R : Fin 2048) (l : Fin 128), i = ix2 R l := ⟨i 0, i 1, eq_ix2 i⟩
  have hR := R.isLt
  have key := hp (R.val % 8 / 2) (by omega) ⟨R.val / 8, by omega⟩ ⟨R.val % 2, by omega⟩ l (by omega)
  refine (read_pairs v f h R _ ⟨R.val % 2, by omega⟩ l ?_).trans (key.trans ?_)
  · show R.val = 2 * (4 * (R.val / 8) + R.val % 8 / 2) + R.val % 2
    omega
  · rw [plainElt_pair]
    unfold blockV headPlain
    refine congrArg (fun o => plainElt (codesV x1 x2) (scaleV x1 x2) w x3 o _ 0 l) ?_
    show 6144 + 256 * (R.val % 8 / 2) + 128 * (R.val % 2) = 6144 + 128 * (R.val % 8)
    omega

end reads

end Cert.KernelIdeal.Val

end
-- ==== Proof.Value.Stores.lean ====
module

public import proofs.«01_k».proof.Proof.Value.Store

/-!
  All the stores of the pairs of heads of one result.

  `stored` is what an array of pairs holds after the first `k` stores, pair `p` going to place `p` of every row;
  `stored_read` reads it. `rotPair` and `plainPair` are the pairs that the body stores: pair `k` of a result whose
  heads start at column `o` comes from the 512 columns from `o + 512 · (k / 2)` on, its first or its second half.
-/

@[expose] public section

set_option maxRecDepth 16384

noncomputable section

namespace Cert.KernelIdeal.Val

open Idealize.ShloMosaic Idealize.ShloMosaic.ValueIdx Cert.KernelIdeal.Gen

section stored

variable {sig : RefSig} {κ : Kind} {n N : Nat} (M : Memref sig κ .vmem ⟨3, ![n, 2, 128]⟩ .bf16)

/-- Place `k` of every row lies in the array. -/
theorem place_inb (hn : n = 256 * N) (k : Nat) (hk : k < N) (a : Fin 3) :
    S256x2x128.size a = 0 ∨ (![k, 0, 0] : Fin 3 → Nat) a + (![N, 1, 1] : Fin 3 → Nat) a * (S256x2x128.size a - 1) < (⟨3, ![n, 2, 128]⟩ : Shape).size a := by
  right
  match a with
  | ⟨0, _⟩ => show k + N * 255 < n; omega
  | ⟨1, _⟩ => show 0 + 1 * 1 < 2; omega
  | ⟨2, _⟩ => show 0 + 1 * 127 < 128; omega

theorem place_pos (hN : 0 < N) (a : Fin 3) : 0 < (![N, 1, 1] : Fin 3 → Nat) a := by
  match a with
  | ⟨0, _⟩ => exact hN
  | ⟨1, _⟩ => exact Nat.one_pos
  | ⟨2, _⟩ => exact Nat.one_pos

/-- The array of pairs after the first `k` stores. -/
def stored (hn : n = 256 * N) (v : (k : Nat) → k < N → Vec Ideal S256x2x128 .bf16) (f : M.view.ty.Contents (Elt Ideal)) :
    (k : Nat) → k ≤ N → M.view.ty.Contents (Elt Ideal)
  | 0, _ => f
  | k + 1, h => View.write (Elt Ideal)
      (M.access ({ off := ![k, 0, 0], size := S256x2x128.size, stride := ![N, 1, 1], inb := place_inb hn k h, stride_pos := place_pos (Nat.zero_lt_of_lt h) } : Rect ⟨3, ![n, 2, 128]⟩))
      (stored hn v f k (Nat.le_of_lt h)) (v k h) Finset.univ

/-- It holds the stored pairs. -/
theorem stored_read (hn : n = 256 * N) (v : (k : Nat) → k < N → Vec Ideal S256x2x128 .bf16) (f : M.view.ty.Contents (Elt Ideal))
    (Q : Nat → Fin 256 → Fin 2 → Fin 128 → EReal) (hv : ∀ k h r b l, v k h (ix3 r b l) = Q k r b l) :
    ∀ (k : Nat) (hk : k ≤ N) (p : Nat) (hp : p < N) (r : Fin 256) (b : Fin 2) (l : Fin 128), p < k →
      View.read (Elt Ideal) M.view (stored M hn v f k hk) (ix3 (⟨N * r.val + p, by rw [hn]; nlinarith [r.isLt]⟩ : Fin n) b l) = Q p r b l
  | 0, _ => fun _ _ _ _ _ h => absurd h (Nat.not_lt_zero _)
  | k + 1, hk => step M k _ _ _ _ Q hn hk (stored_read hn v f Q hv k (Nat.le_of_lt hk)) (hv k hk)

end stored

section pairs

/-- The half of four heads that pair `k` is. -/
theorem half_slices (k d : Nat) (hd : d + 128 ≤ 256) : S256x512.Slices ![0, 256 * (k % 2) + d] S256x128 :=
  ⟨rfl, fun a => by
    match a with
    | ⟨0, _⟩ => show 0 + 256 ≤ 256; omega
    | ⟨1, _⟩ => show 256 * (k % 2) + d + 128 ≤ 512; omega⟩

theorem wcols_inb (o : Nat) (ho : o + 512 ≤ 7168) (a : Fin 2) : (![0, o] : Fin 2 → Nat) a + S5120x512.size a ≤ S5120x7168.size a := by
  match a with
  | ⟨0, _⟩ => show 0 + 5120 ≤ 5120; omega
  | ⟨1, _⟩ => exact ho

theorem scols_inb (o : Nat) (ho : o + 512 ≤ 7168) (a : Fin 2) : (![0, o] : Fin 2 → Nat) a + S1x512.size a ≤ S1x7168.size a := by
  match a with
  | ⟨0, _⟩ => show 0 + 1 ≤ 1; omega
  | ⟨1, _⟩ => exact ho

variable (C : Vec Ideal S256x5120 .fp8e4m3) (S : Vec Ideal S256x1 .f32) (w : Vec Ideal S5120x7168 .fp8e4m3) (ws : Vec Ideal S1x7168 .f32)
  (W : (o : Nat) → o + 512 ≤ 7168 → Vec Ideal S5120x512 .fp8e4m3) (wS : (o : Nat) → o + 512 ≤ 7168 → Vec Ideal S1x512 .f32)
  (cos sin : Vec Ideal S256x128 .f32) {N : Nat} (o : Nat) (ho : ∀ k, k < N → o + 512 * (k / 2) + 512 ≤ 7168)

/-- Pair `k` of the heads from column `o` on, rotated, -/
def rotPair (k : Nat) (hk : k < N) : Vec Ideal S256x2x128 .bf16 :=
  pairQ (F := Ideal) (grp C (W (o + 512 * (k / 2)) (ho k hk)) S (wS (o + 512 * (k / 2)) (ho k hk))) (256 * (k % 2) + 0) (256 * (k % 2) + 128)
    (half_slices k 0 (by omega)) (half_slices k 128 (by omega)) cos sin

/-- and not rotated. -/
def plainPair (k : Nat) (hk : k < N) : Vec Ideal S256x2x128 .bf16 :=
  pairV (F := Ideal) (grp C (W (o + 512 * (k / 2)) (ho k hk)) S (wS (o + 512 * (k / 2)) (ho k hk))) (256 * (k % 2) + 0) (256 * (k % 2) + 128)
    (half_slices k 0 (by omega)) (half_slices k 128 (by omega))

variable {w ws W wS} (hW : ∀ o h k j, W o h (ix2 k j) = w (ix2 k (col (o + j.val)))) (hS : ∀ o h j, wS o h (ix2 0 j) = ws (ix2 0 (col (o + j.val))))
include hW hS

theorem rotPair_val (k : Nat) (hk : k < N) (r : Fin 256) (b : Fin 2) (l : Fin 128) :
    rotPair C S W wS cos sin o ho k hk (ix3 r b l) = rotElt C S w ws cos sin (o + 256 * k) r b l :=
  pairQ_val _ (hW _ _) (hS _ _) _ _ _ _ rfl (by omega) _ (by omega) r b l

theorem plainPair_val (k : Nat) (hk : k < N) (r : Fin 256) (b : Fin 2) (l : Fin 128) :
    plainPair C S W wS o ho k hk (ix3 r b l) = plainElt C S w ws (o + 256 * k) r b l :=
  pairV_val _ (hW _ _) (hS _ _) _ _ _ _ rfl (by omega) _ (by omega) r b l

end pairs

end Cert.KernelIdeal.Val

end
-- ==== Proof.Value.HeadsA.lean ====
module

public import proofs.«01_k».proof.Proof.Value.Stores
public import proofs.«01_k».proof.Proof.IdealBody.RunA
import all proofs.«01_k».proof.Proof.IdealBody.RunA

/-!
  The heads one grid point stores, at the first point, which has just fetched the weights.

  Read through the array of pairs, each result holds after its last store the heads wanted there (`Val.rotElt` with the
  rotary embedding for q and k, `Val.plainElt` for v).
-/

@[expose] public section

set_option maxRecDepth 16384

noncomputable section

namespace Cert.KernelIdeal.ValA

open Idealize.ShloMosaic Idealize.ShloMosaic.TcCoe Idealize.ShloMosaic.ValueIdx
open Cert.KernelIdeal.Gen Cert.KernelIdeal.Body Cert.KernelIdeal.Val

variable (c : Dev nD) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole)
    (x0 : Vec Ideal S256x1 .i32) (x1 : Vec Ideal S256x5120 .bf16) (x2 : Vec Ideal S1x5120 .f32) (x3 : Vec Ideal S1x7168 .f32) (x4 : Vec Ideal S1x128 .f32) (y7 : Vec Ideal S10240x128 .bf16) (y8 : Vec Ideal S2048x128 .bf16) (y9 : Vec Ideal S2048x128 .bf16) (fh0 : HbBuf0 (F := Ideal) c hbM0_0)

/-- The heads of q. -/
theorem heads_q : ∀ (p : Nat) (hp : p < 20) (r : Fin 256) (b : Fin 2) (l : Fin 128),
    View.read (Elt Ideal) (arg7.reshape S5120x2x128 reshapes_S10240x128_S5120x2x128.1 reshapes_S10240x128_S5120x2x128.2 harg7.contiguous).view (runA.sl.H5_w20 (F := Ideal) c arg1 harg1 arg2 harg2 arg3 harg3 arg4 harg4 arg5 harg5 arg7 harg7 arg10 arg11 arg12 arg13 arg14 x0 x1 x2 x3 x4 fh0 y7)
      (ix3 (⟨20 * r.val + p, by have := r.isLt; omega⟩ : Fin 5120) b l) = rotElt (runA.sl.v1050 (F := Ideal) c arg2 harg2 arg3 harg3 arg10 x1 x2) (runA.sl.v1054 (F := Ideal) c arg2 harg2 arg3 harg3 arg11 x1 x2) (runA.sl.dma0 (F := Ideal) c fh0) x3 (runA.sl.v1063 (F := Ideal) c arg1 harg1 arg5 harg5 arg13 x0 x4) (runA.sl.v1066 (F := Ideal) c arg1 harg1 arg5 harg5 arg14 x0 x4) (0 + 256 * p) r b l := fun p hp r b l =>
  (show _ = View.read (Elt Ideal) (arg7.reshape S5120x2x128 reshapes_S10240x128_S5120x2x128.1 reshapes_S10240x128_S5120x2x128.2 harg7.contiguous).view
      (stored (N := 20) (arg7.reshape S5120x2x128 reshapes_S10240x128_S5120x2x128.1 reshapes_S10240x128_S5120x2x128.2 harg7.contiguous) rfl
        (rotPair (runA.sl.v1050 (F := Ideal) c arg2 harg2 arg3 harg3 arg10 x1 x2) (runA.sl.v1054 (F := Ideal) c arg2 harg2 arg3 harg3 arg11 x1 x2) (fun o h => arg12.view.readCov (Val := Elt Ideal) [⟨Rect.whole S5120x7168, (runA.sl.dma0 (F := Ideal) c fh0)⟩] (Rect.unit (s := S5120x7168) ![0, o] S5120x512.size (wcols_inb o h)).toLoadRect) (fun o h => View.readAt (Elt Ideal) arg4.view (Rect.unit (s := S1x7168) ![0, o] S1x512.size (scols_inb o h)).toLoadRect (harg4.unread x3)) (runA.sl.v1063 (F := Ideal) c arg1 harg1 arg5 harg5 arg13 x0 x4) (runA.sl.v1066 (F := Ideal) c arg1 harg1 arg5 harg5 arg14 x0 x4) 0 (fun k hk => by omega))
        (harg7.unread y7) 20 (Nat.le_refl _)) _ from rfl).trans
    (stored_read _ rfl _ _ _ (rotPair_val (runA.sl.v1050 (F := Ideal) c arg2 harg2 arg3 harg3 arg10 x1 x2) (runA.sl.v1054 (F := Ideal) c arg2 harg2 arg3 harg3 arg11 x1 x2) (runA.sl.v1063 (F := Ideal) c arg1 harg1 arg5 harg5 arg13 x0 x4) (runA.sl.v1066 (F := Ideal) c arg1 harg1 arg5 harg5 arg14 x0 x4) 0 (fun k hk => by omega) (fun o h => readCovW arg12 (runA.sl.dma0 (F := Ideal) c fh0) o (wcols_inb o h) h) (fun o h => readS harg4 x3 o (scols_inb o h) h)) 20 (Nat.le_refl _) p hp r b l hp)

/-- The heads of k. -/
theorem heads_k : ∀ (p : Nat) (hp : p < 4) (r : Fin 256) (b : Fin 2) (l : Fin 128),
    View.read (Elt Ideal) (arg8.reshape S1024x2x128 reshapes_S2048x128_S1024x2x128.1 reshapes_S2048x128_S1024x2x128.2 harg8.contiguous).view (runA.sl.H6_w24 (F := Ideal) c arg1 harg1 arg2 harg2 arg3 harg3 arg4 harg4 arg5 harg5 arg8 harg8 arg10 arg11 arg12 arg13 arg14 x0 x1 x2 x3 x4 fh0 y8)
      (ix3 (⟨4 * r.val + p, by have := r.isLt; omega⟩ : Fin 1024) b l) = rotElt (runA.sl.v1050 (F := Ideal) c arg2 harg2 arg3 harg3 arg10 x1 x2) (runA.sl.v1054 (F := Ideal) c arg2 harg2 arg3 harg3 arg11 x1 x2) (runA.sl.dma0 (F := Ideal) c fh0) x3 (runA.sl.v1063 (F := Ideal) c arg1 harg1 arg5 harg5 arg13 x0 x4) (runA.sl.v1066 (F := Ideal) c arg1 harg1 arg5 harg5 arg14 x0 x4) (5120 + 256 * p) r b l := fun p hp r b l =>
  (show _ = View.read (Elt Ideal) (arg8.reshape S1024x2x128 reshapes_S2048x128_S1024x2x128.1 reshapes_S2048x128_S1024x2x128.2 harg8.contiguous).view
      (stored (N := 4) (arg8.reshape S1024x2x128 reshapes_S2048x128_S1024x2x128.1 reshapes_S2048x128_S1024x2x128.2 harg8.contiguous) rfl
        (rotPair (runA.sl.v1050 (F := Ideal) c arg2 harg2 arg3 harg3 arg10 x1 x2) (runA.sl.v1054 (F := Ideal) c arg2 harg2 arg3 harg3 arg11 x1 x2) (fun o h => arg12.view.readCov (Val := Elt Ideal) [⟨Rect.whole S5120x7168, (runA.sl.dma0 (F := Ideal) c fh0)⟩] (Rect.unit (s := S5120x7168) ![0, o] S5120x512.size (wcols_inb o h)).toLoadRect) (fun o h => View.readAt (Elt Ideal) arg4.view (Rect.unit (s := S1x7168) ![0, o] S1x512.size (scols_inb o h)).toLoadRect (harg4.unread x3)) (runA.sl.v1063 (F := Ideal) c arg1 harg1 arg5 harg5 arg13 x0 x4) (runA.sl.v1066 (F := Ideal) c arg1 harg1 arg5 harg5 arg14 x0 x4) 5120 (fun k hk => by omega))
        (harg8.unread y8) 4 (Nat.le_refl _)) _ from rfl).trans
    (stored_read _ rfl _ _ _ (rotPair_val (runA.sl.v1050 (F := Ideal) c arg2 harg2 arg3 harg3 arg10 x1 x2) (runA.sl.v1054 (F := Ideal) c arg2 harg2 arg3 harg3 arg11 x1 x2) (runA.sl.v1063 (F := Ideal) c arg1 harg1 arg5 harg5 arg13 x0 x4) (runA.sl.v1066 (F := Ideal) c arg1 harg1 arg5 harg5 arg14 x0 x4) 5120 (fun k hk => by omega) (fun o h => readCovW arg12 (runA.sl.dma0 (F := Ideal) c fh0) o (wcols_inb o h) h) (fun o h => readS harg4 x3 o (scols_inb o h) h)) 4 (Nat.le_refl _) p hp r b l hp)

/-- The heads of v. -/
theorem heads_v : ∀ (p : Nat) (hp : p < 4) (r : Fin 256) (b : Fin 2) (l : Fin 128),
    View.read (Elt Ideal) (arg9.reshape S1024x2x128 reshapes_S2048x128_S1024x2x128.1 reshapes_S2048x128_S1024x2x128.2 harg9.contiguous).view (runA.sl.H7_w28 (F := Ideal) c arg2 harg2 arg3 harg3 arg4 harg4 arg9 harg9 arg10 arg11 arg12 x1 x2 x3 fh0 y9)
      (ix3 (⟨4 * r.val + p, by have := r.isLt; omega⟩ : Fin 1024) b l) = plainElt (runA.sl.v1050 (F := Ideal) c arg2 harg2 arg3 harg3 arg10 x1 x2) (runA.sl.v1054 (F := Ideal) c arg2 harg2 arg3 harg3 arg11 x1 x2) (runA.sl.dma0 (F := Ideal) c fh0) x3 (6144 + 256 * p) r b l := fun p hp r b l =>
  (show _ = View.read (Elt Ideal) (arg9.reshape S1024x2x128 reshapes_S2048x128_S1024x2x128.1 reshapes_S2048x128_S1024x2x128.2 harg9.contiguous).view
      (stored (N := 4) (arg9.reshape S1024x2x128 reshapes_S2048x128_S1024x2x128.1 reshapes_S2048x128_S1024x2x128.2 harg9.contiguous) rfl
        (plainPair (runA.sl.v1050 (F := Ideal) c arg2 harg2 arg3 harg3 arg10 x1 x2) (runA.sl.v1054 (F := Ideal) c arg2 harg2 arg3 harg3 arg11 x1 x2) (fun o h => arg12.view.readCov (Val := Elt Ideal) [⟨Rect.whole S5120x7168, (runA.sl.dma0 (F := Ideal) c fh0)⟩] (Rect.unit (s := S5120x7168) ![0, o] S5120x512.size (wcols_inb o h)).toLoadRect) (fun o h => View.readAt (Elt Ideal) arg4.view (Rect.unit (s := S1x7168) ![0, o] S1x512.size (scols_inb o h)).toLoadRect (harg4.unread x3)) 6144 (fun k hk => by omega))
        (harg9.unread y9) 4 (Nat.le_refl _)) _ from rfl).trans
    (stored_read _ rfl _ _ _ (plainPair_val (runA.sl.v1050 (F := Ideal) c arg2 harg2 arg3 harg3 arg10 x1 x2) (runA.sl.v1054 (F := Ideal) c arg2 harg2 arg3 harg3 arg11 x1 x2) 6144 (fun k hk => by omega) (fun o h => readCovW arg12 (runA.sl.dma0 (F := Ideal) c fh0) o (wcols_inb o h) h) (fun o h => readS harg4 x3 o (scols_inb o h) h)) 4 (Nat.le_refl _) p hp r b l hp)

end Cert.KernelIdeal.ValA

end
-- ==== Proof.Value.OutsA.lean ====
module

public import proofs.«01_k».proof.Proof.Value.Outs
public import proofs.«01_k».proof.Proof.Value.HeadsA
import all proofs.«01_k».proof.Proof.IdealBody.RunA

/-!
  The run of the body at the first point leaves the blocks of `Val.blockQ`, `Val.blockK`, `Val.blockV`,
  `Val.codesV` and `Val.scaleV`, whatever its buffers held before.
-/

@[expose] public section

set_option maxRecDepth 16384

noncomputable section

namespace Cert.KernelIdeal.ValA

open Idealize.ShloMosaic Idealize.ShloMosaic.TcCoe Idealize.ShloMosaic.ValueIdx
open Cert.KernelIdeal.Gen Cert.KernelIdeal.Body Cert.KernelIdeal.Val

variable (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : cond0_0 i)
    (x0 : Vec Ideal S256x1 .i32) (x1 : Vec Ideal S256x5120 .bf16) (x2 : Vec Ideal S1x5120 .f32) (x3 : Vec Ideal S1x7168 .f32) (x4 : Vec Ideal S1x128 .f32) (fh0 : HbBuf0 (F := Ideal) c hbM0_0) (y7 : Vec Ideal S10240x128 .bf16) (y8 : Vec Ideal S2048x128 .bf16) (y9 : Vec Ideal S2048x128 .bf16) (y10 : Vec Ideal S256x5120 .fp8e4m3) (y11 : Vec Ideal S256x1 .f32) (w : Vec Ideal S5120x7168 .fp8e4m3)

theorem v1050_eq : runA.sl.v1050 (F := Ideal) c arg2 harg2 arg3 harg3 arg10 x1 x2 = codesV x1 x2 :=
  (show _ = arg10.view.readCov (Val := Elt Ideal) (codesL (F := Ideal) arg2 harg2 arg3 harg3 x1 x2) (Rect.unit (s := S256x5120) ![0, 0] S256x5120.size inb_S256x5120_S256x5120_0_0).toLoadRect from rfl).trans
    (codes_cov arg2 harg2 arg3 harg3 x1 x2 arg10.view)

theorem v1054_eq : runA.sl.v1054 (F := Ideal) c arg2 harg2 arg3 harg3 arg11 x1 x2 = scaleV x1 x2 :=
  (show _ = arg11.view.readCov (Val := Elt Ideal) (scaleL (F := Ideal) arg2 harg2 arg3 harg3 x1 x2) (Rect.unit (s := S256x1) ![0, 0] S256x1.size inb_S256x1_S256x1_0_0).toLoadRect from rfl).trans
    (scale_cov arg2 harg2 arg3 harg3 x1 x2 arg11.view)

theorem v1063_eq : runA.sl.v1063 (F := Ideal) c arg1 harg1 arg5 harg5 arg13 x0 x4 = cosV x0 x4 :=
  (show _ = arg13.view.readCov (Val := Elt Ideal) (cosL (F := Ideal) arg1 harg1 arg5 harg5 x0 x4) (Rect.unit (s := S256x128) ![0, 0] S256x128.size inb_S256x128_S256x128_0_0).toLoadRect from rfl).trans
    (cos_cov arg1 harg1 arg5 harg5 x0 x4 arg13.view)

theorem v1066_eq : runA.sl.v1066 (F := Ideal) c arg1 harg1 arg5 harg5 arg14 x0 x4 = sinV x0 x4 :=
  (show _ = arg14.view.readCov (Val := Elt Ideal) (sinL (F := Ideal) arg1 harg1 arg5 harg5 x0 x4) (Rect.unit (s := S256x128) ![0, 0] S256x128.size inb_S256x128_S256x128_0_0).toLoadRect from rfl).trans
    (sin_cov arg1 harg1 arg5 harg5 x0 x4 arg14.view)

/-- The q block the run leaves, -/
theorem outQ : (runA (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.1 = blockQ x0 x1 x2 x3 x4 (runA.sl.dma0 (F := Ideal) c fh0) := by
  refine (show _ = View.read (Elt Ideal) arg7.view (runA.sl.H5_w20 (F := Ideal) c arg1 harg1 arg2 harg2 arg3 harg3 arg4 harg4 arg5 harg5 arg7 harg7 arg10 arg11 arg12 arg13 arg14 x0 x1 x2 x3 x4 fh0 y7) from rfl).trans ?_
  refine blockQ_of x1 x2 x0 x4 x3 (runA.sl.dma0 (F := Ideal) c fh0) arg7.view _ reshapes_S10240x128_S5120x2x128.1 fun p hp r b l h => ?_
  have key := heads_q c arg1 harg1 arg2 harg2 arg3 harg3 arg4 harg4 arg5 harg5 arg7 harg7 arg10 arg11 arg12 arg13 arg14 x0 x1 x2 x3 x4 y7 fh0 p hp r b l
  rw [v1050_eq, v1054_eq, v1063_eq, v1066_eq] at key
  exact key

/-- the k block, -/
theorem outK : (runA (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.1 = blockK x0 x1 x2 x3 x4 (runA.sl.dma0 (F := Ideal) c fh0) := by
  refine (show _ = View.read (Elt Ideal) arg8.view (runA.sl.H6_w24 (F := Ideal) c arg1 harg1 arg2 harg2 arg3 harg3 arg4 harg4 arg5 harg5 arg8 harg8 arg10 arg11 arg12 arg13 arg14 x0 x1 x2 x3 x4 fh0 y8) from rfl).trans ?_
  refine blockK_of x1 x2 x0 x4 x3 (runA.sl.dma0 (F := Ideal) c fh0) arg8.view _ reshapes_S2048x128_S1024x2x128.1 fun p hp r b l h => ?_
  have key := heads_k c arg1 harg1 arg2 harg2 arg3 harg3 arg4 harg4 arg5 harg5 arg8 harg8 arg10 arg11 arg12 arg13 arg14 x0 x1 x2 x3 x4 y8 fh0 p hp r b l
  rw [v1050_eq, v1054_eq, v1063_eq, v1066_eq] at key
  exact key

/-- the v block, -/
theorem outV : (runA (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.2.1 = blockV x1 x2 x3 (runA.sl.dma0 (F := Ideal) c fh0) := by
  refine (show _ = View.read (Elt Ideal) arg9.view (runA.sl.H7_w28 (F := Ideal) c arg2 harg2 arg3 harg3 arg4 harg4 arg9 harg9 arg10 arg11 arg12 x1 x2 x3 fh0 y9) from rfl).trans ?_
  refine blockV_of x1 x2 x3 (runA.sl.dma0 (F := Ideal) c fh0) arg9.view _ reshapes_S2048x128_S1024x2x128.1 fun p hp r b l h => ?_
  have key := heads_v c arg2 harg2 arg3 harg3 arg4 harg4 arg9 harg9 arg10 arg11 arg12 x1 x2 x3 y9 fh0 p hp r b l
  rw [v1050_eq, v1054_eq] at key
  exact key

/-- the codes, -/
theorem outCodes : (runA (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.2.2.1 = codesV x1 x2 :=
  (show _ = View.read (Elt Ideal) arg10.view (arg10.view.writes (Elt Ideal) (harg10.unread y10) (codesL (F := Ideal) arg2 harg2 arg3 harg3 x1 x2)) from rfl).trans
    (codes_eq arg2 harg2 arg3 harg3 x1 x2 arg10.view _)

/-- the scales, and -/
theorem outScale : (runA (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.2.2.2.1 = scaleV x1 x2 :=
  (show _ = View.read (Elt Ideal) arg11.view (arg11.view.writes (Elt Ideal) (harg11.unread y11) (scaleL (F := Ideal) arg2 harg2 arg3 harg3 x1 x2)) from rfl).trans
    (Val.scale_eq arg2 harg2 arg3 harg3 x1 x2 arg11.view _)

/-- the weights, fetched. -/
theorem outW : (runA (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.2.2.2.2 = (runA.sl.dma0 (F := Ideal) c fh0) :=
  View.read_writes_whole _ _ _

end Cert.KernelIdeal.ValA

end
-- ==== Proof.Value.HeadsB.lean ====
module

public import proofs.«01_k».proof.Proof.Value.Stores
public import proofs.«01_k».proof.Proof.IdealBody.RunB
import all proofs.«01_k».proof.Proof.IdealBody.RunB

/-!
  The heads one grid point stores, at a point after the first.

  Read through the array of pairs, each result holds after its last store the heads wanted there (`Val.rotElt` with the
  rotary embedding for q and k, `Val.plainElt` for v).
-/

@[expose] public section

set_option maxRecDepth 16384

noncomputable section

namespace Cert.KernelIdeal.ValB

open Idealize.ShloMosaic Idealize.ShloMosaic.TcCoe Idealize.ShloMosaic.ValueIdx
open Cert.KernelIdeal.Gen Cert.KernelIdeal.Body Cert.KernelIdeal.Val

variable (c : Dev nD) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole)
    (x0 : Vec Ideal S256x1 .i32) (x1 : Vec Ideal S256x5120 .bf16) (x2 : Vec Ideal S1x5120 .f32) (x3 : Vec Ideal S1x7168 .f32) (x4 : Vec Ideal S1x128 .f32) (y7 : Vec Ideal S10240x128 .bf16) (y8 : Vec Ideal S2048x128 .bf16) (y9 : Vec Ideal S2048x128 .bf16) (w : Vec Ideal S5120x7168 .fp8e4m3)

/-- The heads of q. -/
theorem heads_q : ∀ (p : Nat) (hp : p < 20) (r : Fin 256) (b : Fin 2) (l : Fin 128),
    View.read (Elt Ideal) (arg7.reshape S5120x2x128 reshapes_S10240x128_S5120x2x128.1 reshapes_S10240x128_S5120x2x128.2 harg7.contiguous).view (runB.sl.H5_w20 (F := Ideal) c arg1 harg1 arg2 harg2 arg3 harg3 arg4 harg4 arg5 harg5 arg7 harg7 arg10 arg11 arg12 harg12 arg13 arg14 x0 x1 x2 x3 x4 y7 w)
      (ix3 (⟨20 * r.val + p, by have := r.isLt; omega⟩ : Fin 5120) b l) = rotElt (runB.sl.v1050 (F := Ideal) c arg2 harg2 arg3 harg3 arg10 x1 x2) (runB.sl.v1054 (F := Ideal) c arg2 harg2 arg3 harg3 arg11 x1 x2) w x3 (runB.sl.v1063 (F := Ideal) c arg1 harg1 arg5 harg5 arg13 x0 x4) (runB.sl.v1066 (F := Ideal) c arg1 harg1 arg5 harg5 arg14 x0 x4) (0 + 256 * p) r b l := fun p hp r b l =>
  (show _ = View.read (Elt Ideal) (arg7.reshape S5120x2x128 reshapes_S10240x128_S5120x2x128.1 reshapes_S10240x128_S5120x2x128.2 harg7.contiguous).view
      (stored (N := 20) (arg7.reshape S5120x2x128 reshapes_S10240x128_S5120x2x128.1 reshapes_S10240x128_S5120x2x128.2 harg7.contiguous) rfl
        (rotPair (runB.sl.v1050 (F := Ideal) c arg2 harg2 arg3 harg3 arg10 x1 x2) (runB.sl.v1054 (F := Ideal) c arg2 harg2 arg3 harg3 arg11 x1 x2) (fun o h => View.readAt (Elt Ideal) arg12.view (Rect.unit (s := S5120x7168) ![0, o] S5120x512.size (wcols_inb o h)).toLoadRect (harg12.unread w)) (fun o h => View.readAt (Elt Ideal) arg4.view (Rect.unit (s := S1x7168) ![0, o] S1x512.size (scols_inb o h)).toLoadRect (harg4.unread x3)) (runB.sl.v1063 (F := Ideal) c arg1 harg1 arg5 harg5 arg13 x0 x4) (runB.sl.v1066 (F := Ideal) c arg1 harg1 arg5 harg5 arg14 x0 x4) 0 (fun k hk => by omega))
        (harg7.unread y7) 20 (Nat.le_refl _)) _ from rfl).trans
    (stored_read _ rfl _ _ _ (rotPair_val (runB.sl.v1050 (F := Ideal) c arg2 harg2 arg3 harg3 arg10 x1 x2) (runB.sl.v1054 (F := Ideal) c arg2 harg2 arg3 harg3 arg11 x1 x2) (runB.sl.v1063 (F := Ideal) c arg1 harg1 arg5 harg5 arg13 x0 x4) (runB.sl.v1066 (F := Ideal) c arg1 harg1 arg5 harg5 arg14 x0 x4) 0 (fun k hk => by omega) (fun o h => readW harg12 w o (wcols_inb o h) h) (fun o h => readS harg4 x3 o (scols_inb o h) h)) 20 (Nat.le_refl _) p hp r b l hp)

/-- The heads of k. -/
theorem heads_k : ∀ (p : Nat) (hp : p < 4) (r : Fin 256) (b : Fin 2) (l : Fin 128),
    View.read (Elt Ideal) (arg8.reshape S1024x2x128 reshapes_S2048x128_S1024x2x128.1 reshapes_S2048x128_S1024x2x128.2 harg8.contiguous).view (runB.sl.H6_w24 (F := Ideal) c arg1 harg1 arg2 harg2 arg3 harg3 arg4 harg4 arg5 harg5 arg8 harg8 arg10 arg11 arg12 harg12 arg13 arg14 x0 x1 x2 x3 x4 y8 w)
      (ix3 (⟨4 * r.val + p, by have := r.isLt; omega⟩ : Fin 1024) b l) = rotElt (runB.sl.v1050 (F := Ideal) c arg2 harg2 arg3 harg3 arg10 x1 x2) (runB.sl.v1054 (F := Ideal) c arg2 harg2 arg3 harg3 arg11 x1 x2) w x3 (runB.sl.v1063 (F := Ideal) c arg1 harg1 arg5 harg5 arg13 x0 x4) (runB.sl.v1066 (F := Ideal) c arg1 harg1 arg5 harg5 arg14 x0 x4) (5120 + 256 * p) r b l := fun p hp r b l =>
  (show _ = View.read (Elt Ideal) (arg8.reshape S1024x2x128 reshapes_S2048x128_S1024x2x128.1 reshapes_S2048x128_S1024x2x128.2 harg8.contiguous).view
      (stored (N := 4) (arg8.reshape S1024x2x128 reshapes_S2048x128_S1024x2x128.1 reshapes_S2048x128_S1024x2x128.2 harg8.contiguous) rfl
        (rotPair (runB.sl.v1050 (F := Ideal) c arg2 harg2 arg3 harg3 arg10 x1 x2) (runB.sl.v1054 (F := Ideal) c arg2 harg2 arg3 harg3 arg11 x1 x2) (fun o h => View.readAt (Elt Ideal) arg12.view (Rect.unit (s := S5120x7168) ![0, o] S5120x512.size (wcols_inb o h)).toLoadRect (harg12.unread w)) (fun o h => View.readAt (Elt Ideal) arg4.view (Rect.unit (s := S1x7168) ![0, o] S1x512.size (scols_inb o h)).toLoadRect (harg4.unread x3)) (runB.sl.v1063 (F := Ideal) c arg1 harg1 arg5 harg5 arg13 x0 x4) (runB.sl.v1066 (F := Ideal) c arg1 harg1 arg5 harg5 arg14 x0 x4) 5120 (fun k hk => by omega))
        (harg8.unread y8) 4 (Nat.le_refl _)) _ from rfl).trans
    (stored_read _ rfl _ _ _ (rotPair_val (runB.sl.v1050 (F := Ideal) c arg2 harg2 arg3 harg3 arg10 x1 x2) (runB.sl.v1054 (F := Ideal) c arg2 harg2 arg3 harg3 arg11 x1 x2) (runB.sl.v1063 (F := Ideal) c arg1 harg1 arg5 harg5 arg13 x0 x4) (runB.sl.v1066 (F := Ideal) c arg1 harg1 arg5 harg5 arg14 x0 x4) 5120 (fun k hk => by omega) (fun o h => readW harg12 w o (wcols_inb o h) h) (fun o h => readS harg4 x3 o (scols_inb o h) h)) 4 (Nat.le_refl _) p hp r b l hp)

/-- The heads of v. -/
theorem heads_v : ∀ (p : Nat) (hp : p < 4) (r : Fin 256) (b : Fin 2) (l : Fin 128),
    View.read (Elt Ideal) (arg9.reshape S1024x2x128 reshapes_S2048x128_S1024x2x128.1 reshapes_S2048x128_S1024x2x128.2 harg9.contiguous).view (runB.sl.H7_w28 (F := Ideal) c arg2 harg2 arg3 harg3 arg4 harg4 arg9 harg9 arg10 arg11 arg12 harg12 x1 x2 x3 y9 w)
      (ix3 (⟨4 * r.val + p, by have := r.isLt; omega⟩ : Fin 1024) b l) = plainElt (runB.sl.v1050 (F := Ideal) c arg2 harg2 arg3 harg3 arg10 x1 x2) (runB.sl.v1054 (F := Ideal) c arg2 harg2 arg3 harg3 arg11 x1 x2) w x3 (6144 + 256 * p) r b l := fun p hp r b l =>
  (show _ = View.read (Elt Ideal) (arg9.reshape S1024x2x128 reshapes_S2048x128_S1024x2x128.1 reshapes_S2048x128_S1024x2x128.2 harg9.contiguous).view
      (stored (N := 4) (arg9.reshape S1024x2x128 reshapes_S2048x128_S1024x2x128.1 reshapes_S2048x128_S1024x2x128.2 harg9.contiguous) rfl
        (plainPair (runB.sl.v1050 (F := Ideal) c arg2 harg2 arg3 harg3 arg10 x1 x2) (runB.sl.v1054 (F := Ideal) c arg2 harg2 arg3 harg3 arg11 x1 x2) (fun o h => View.readAt (Elt Ideal) arg12.view (Rect.unit (s := S5120x7168) ![0, o] S5120x512.size (wcols_inb o h)).toLoadRect (harg12.unread w)) (fun o h => View.readAt (Elt Ideal) arg4.view (Rect.unit (s := S1x7168) ![0, o] S1x512.size (scols_inb o h)).toLoadRect (harg4.unread x3)) 6144 (fun k hk => by omega))
        (harg9.unread y9) 4 (Nat.le_refl _)) _ from rfl).trans
    (stored_read _ rfl _ _ _ (plainPair_val (runB.sl.v1050 (F := Ideal) c arg2 harg2 arg3 harg3 arg10 x1 x2) (runB.sl.v1054 (F := Ideal) c arg2 harg2 arg3 harg3 arg11 x1 x2) 6144 (fun k hk => by omega) (fun o h => readW harg12 w o (wcols_inb o h) h) (fun o h => readS harg4 x3 o (scols_inb o h) h)) 4 (Nat.le_refl _) p hp r b l hp)

end Cert.KernelIdeal.ValB

end
-- ==== Proof.Value.OutsB.lean ====
module

public import proofs.«01_k».proof.Proof.Value.Outs
public import proofs.«01_k».proof.Proof.Value.HeadsB
import all proofs.«01_k».proof.Proof.IdealBody.RunB

/-!
  The run of the body at a point after the first leaves the blocks of `Val.blockQ`, `Val.blockK`, `Val.blockV`,
  `Val.codesV` and `Val.scaleV`, whatever its buffers held before.
-/

@[expose] public section

set_option maxRecDepth 16384

noncomputable section

namespace Cert.KernelIdeal.ValB

open Idealize.ShloMosaic Idealize.ShloMosaic.TcCoe Idealize.ShloMosaic.ValueIdx
open Cert.KernelIdeal.Gen Cert.KernelIdeal.Body Cert.KernelIdeal.Val

variable (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : ¬cond0_0 i)
    (x0 : Vec Ideal S256x1 .i32) (x1 : Vec Ideal S256x5120 .bf16) (x2 : Vec Ideal S1x5120 .f32) (x3 : Vec Ideal S1x7168 .f32) (x4 : Vec Ideal S1x128 .f32) (fh0 : HbBuf0 (F := Ideal) c hbM0_0) (y7 : Vec Ideal S10240x128 .bf16) (y8 : Vec Ideal S2048x128 .bf16) (y9 : Vec Ideal S2048x128 .bf16) (y10 : Vec Ideal S256x5120 .fp8e4m3) (y11 : Vec Ideal S256x1 .f32) (w : Vec Ideal S5120x7168 .fp8e4m3)

theorem v1050_eq : runB.sl.v1050 (F := Ideal) c arg2 harg2 arg3 harg3 arg10 x1 x2 = codesV x1 x2 :=
  (show _ = arg10.view.readCov (Val := Elt Ideal) (codesL (F := Ideal) arg2 harg2 arg3 harg3 x1 x2) (Rect.unit (s := S256x5120) ![0, 0] S256x5120.size inb_S256x5120_S256x5120_0_0).toLoadRect from rfl).trans
    (codes_cov arg2 harg2 arg3 harg3 x1 x2 arg10.view)

theorem v1054_eq : runB.sl.v1054 (F := Ideal) c arg2 harg2 arg3 harg3 arg11 x1 x2 = scaleV x1 x2 :=
  (show _ = arg11.view.readCov (Val := Elt Ideal) (scaleL (F := Ideal) arg2 harg2 arg3 harg3 x1 x2) (Rect.unit (s := S256x1) ![0, 0] S256x1.size inb_S256x1_S256x1_0_0).toLoadRect from rfl).trans
    (scale_cov arg2 harg2 arg3 harg3 x1 x2 arg11.view)

theorem v1063_eq : runB.sl.v1063 (F := Ideal) c arg1 harg1 arg5 harg5 arg13 x0 x4 = cosV x0 x4 :=
  (show _ = arg13.view.readCov (Val := Elt Ideal) (cosL (F := Ideal) arg1 harg1 arg5 harg5 x0 x4) (Rect.unit (s := S256x128) ![0, 0] S256x128.size inb_S256x128_S256x128_0_0).toLoadRect from rfl).trans
    (cos_cov arg1 harg1 arg5 harg5 x0 x4 arg13.view)

theorem v1066_eq : runB.sl.v1066 (F := Ideal) c arg1 harg1 arg5 harg5 arg14 x0 x4 = sinV x0 x4 :=
  (show _ = arg14.view.readCov (Val := Elt Ideal) (sinL (F := Ideal) arg1 harg1 arg5 harg5 x0 x4) (Rect.unit (s := S256x128) ![0, 0] S256x128.size inb_S256x128_S256x128_0_0).toLoadRect from rfl).trans
    (sin_cov arg1 harg1 arg5 harg5 x0 x4 arg14.view)

/-- The q block the run leaves, -/
theorem outQ : (runB (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.1 = blockQ x0 x1 x2 x3 x4 w := by
  refine (show _ = View.read (Elt Ideal) arg7.view (runB.sl.H5_w20 (F := Ideal) c arg1 harg1 arg2 harg2 arg3 harg3 arg4 harg4 arg5 harg5 arg7 harg7 arg10 arg11 arg12 harg12 arg13 arg14 x0 x1 x2 x3 x4 y7 w) from rfl).trans ?_
  refine blockQ_of x1 x2 x0 x4 x3 w arg7.view _ reshapes_S10240x128_S5120x2x128.1 fun p hp r b l h => ?_
  have key := heads_q c arg1 harg1 arg2 harg2 arg3 harg3 arg4 harg4 arg5 harg5 arg7 harg7 arg10 arg11 arg12 harg12 arg13 arg14 x0 x1 x2 x3 x4 y7 w p hp r b l
  rw [v1050_eq, v1054_eq, v1063_eq, v1066_eq] at key
  exact key

/-- the k block, -/
theorem outK : (runB (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.1 = blockK x0 x1 x2 x3 x4 w := by
  refine (show _ = View.read (Elt Ideal) arg8.view (runB.sl.H6_w24 (F := Ideal) c arg1 harg1 arg2 harg2 arg3 harg3 arg4 harg4 arg5 harg5 arg8 harg8 arg10 arg11 arg12 harg12 arg13 arg14 x0 x1 x2 x3 x4 y8 w) from rfl).trans ?_
  refine blockK_of x1 x2 x0 x4 x3 w arg8.view _ reshapes_S2048x128_S1024x2x128.1 fun p hp r b l h => ?_
  have key := heads_k c arg1 harg1 arg2 harg2 arg3 harg3 arg4 harg4 arg5 harg5 arg8 harg8 arg10 arg11 arg12 harg12 arg13 arg14 x0 x1 x2 x3 x4 y8 w p hp r b l
  rw [v1050_eq, v1054_eq, v1063_eq, v1066_eq] at key
  exact key

/-- the v block, -/
theorem outV : (runB (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.2.1 = blockV x1 x2 x3 w := by
  refine (show _ = View.read (Elt Ideal) arg9.view (runB.sl.H7_w28 (F := Ideal) c arg2 harg2 arg3 harg3 arg4 harg4 arg9 harg9 arg10 arg11 arg12 harg12 x1 x2 x3 y9 w) from rfl).trans ?_
  refine blockV_of x1 x2 x3 w arg9.view _ reshapes_S2048x128_S1024x2x128.1 fun p hp r b l h => ?_
  have key := heads_v c arg2 harg2 arg3 harg3 arg4 harg4 arg9 harg9 arg10 arg11 arg12 harg12 x1 x2 x3 y9 w p hp r b l
  rw [v1050_eq, v1054_eq] at key
  exact key

/-- the codes, -/
theorem outCodes : (runB (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.2.2.1 = codesV x1 x2 :=
  (show _ = View.read (Elt Ideal) arg10.view (arg10.view.writes (Elt Ideal) (harg10.unread y10) (codesL (F := Ideal) arg2 harg2 arg3 harg3 x1 x2)) from rfl).trans
    (codes_eq arg2 harg2 arg3 harg3 x1 x2 arg10.view _)

/-- the scales. -/
theorem outScale : (runB (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).1.2.2.2.2 = scaleV x1 x2 :=
  (show _ = View.read (Elt Ideal) arg11.view (arg11.view.writes (Elt Ideal) (harg11.unread y11) (scaleL (F := Ideal) arg2 harg2 arg3 harg3 x1 x2)) from rfl).trans
    (Val.scale_eq arg2 harg2 arg3 harg3 x1 x2 arg11.view _)

end Cert.KernelIdeal.ValB

end
-- ==== Proof.IdealBody.Frame.lean ====
module

public import proofs.«01_k».proof.Proof.IdealBody.RunA
public import proofs.«01_k».proof.Proof.IdealBody.RunB
public import proofs.«01_k».proof.Proof.Value.OutsA
public import proofs.«01_k».proof.Proof.Value.OutsB
public import Idealize.ShloMosaic.Lib.Claim
import all proofs.«01_k».proof.Proof.IdealBody.RunA

/-!
  The frame of the idealized kernel, its results named.

  After the body at a point the five output buffers hold the blocks of `Val.blockQ`, `Val.blockK`, `Val.blockV`,
  `Val.codesV` and `Val.scaleV` of that point's inputs (`dats`). From the first point on the scratch buffer holds the
  weights (`phiAt`).
-/

@[expose] public section

-- membership in a rectangle of production extents (`View.cover_of_tiled`): the elaborator's structural look
-- recurses once per coordinate of the long axes
set_option maxRecDepth 16384

noncomputable section

namespace Cert.KernelIdeal.Body

open Idealize.ShloMosaic Idealize.ShloMosaic.TcCoe Idealize.ShloMosaic.Tactic
open Cert.KernelIdeal.Gen Cert.KernelIdeal.Val
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
/-! ## The pipeline's proof data -/

/-- The weights as the first point fetches them. -/
def wts (c : Dev nD) (fh0 : HbBuf0 (F := Ideal) c hbM0_0) : Vec Ideal S5120x7168 .fp8e4m3 :=
  ReadAs.same.apply (View.read (Elt Ideal) (Memref.whole main_arg2).view fh0)

/-- The body at the first point, the blocks it leaves in closed form, -/
theorem runA_closed (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : cond0_0 i)
        (x0 : Vec Ideal S256x1 .i32) (x1 : Vec Ideal S256x5120 .bf16) (x2 : Vec Ideal S1x5120 .f32) (x3 : Vec Ideal S1x7168 .f32) (x4 : Vec Ideal S1x128 .f32) (fh0 : HbBuf0 (F := Ideal) c hbM0_0) (y7 : Vec Ideal S10240x128 .bf16)  (y8 : Vec Ideal S2048x128 .bf16)  (y9 : Vec Ideal S2048x128 .bf16)  (y10 : Vec Ideal S256x5120 .fp8e4m3)  (y11 : Vec Ideal S256x1 .f32) (w : Vec Ideal S5120x7168 .fp8e4m3) (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare w ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare (blockQ x0 x1 x2 x3 x4 (wts c fh0)) ∗ owns (c : Thread nD τ) arg8 fullShare (blockK x0 x1 x2 x3 x4 (wts c fh0)) ∗ owns (c : Thread nD τ) arg9 fullShare (blockV x1 x2 x3 (wts c fh0)) ∗ owns (c : Thread nD τ) arg10 fullShare (codesV x1 x2) ∗ owns (c : Thread nD τ) arg11 fullShare (scaleV x1 x2) ∗ owns (c : Thread nD τ) arg12 fullShare ((wts c fh0)) ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ (∃ W', owes (c : Thread nD τ) 0 W')) -∗ K ⟨⟩))
          ⊢ wp frame (wpE (defs₀ (F := Ideal)) Variants.none c none) Set.univ (cc0__body i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 cc0_scratch3) K := by
  have h := (runA (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).2 W K
  rw [ValA.outQ, ValA.outK, ValA.outV, ValA.outCodes, ValA.outScale, ValA.outW] at h
  exact h

/-- and at a point after it. -/
theorem runB_closed (c : Dev nD) (i : grid0.Coords) (arg1 : Memref sig .tc .vmem S256x1 .i32) (harg1 : arg1.IsWhole) (arg2 : Memref sig .tc .vmem S256x5120 .bf16) (harg2 : arg2.IsWhole) (arg3 : Memref sig .tc .vmem S1x5120 .f32) (harg3 : arg3.IsWhole) (arg4 : Memref sig .tc .vmem S1x7168 .f32) (harg4 : arg4.IsWhole) (arg5 : Memref sig .tc .vmem S1x128 .f32) (harg5 : arg5.IsWhole) (arg7 : Memref sig .tc .vmem S10240x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S5120x7168 .fp8e4m3) (harg12 : arg12.IsWhole) (arg13 : Memref sig .tc .vmem S256x128 .f32) (harg13 : arg13.IsWhole) (arg14 : Memref sig .tc .vmem S256x128 .f32) (harg14 : arg14.IsWhole) (hc0 : ¬cond0_0 i)
        (x0 : Vec Ideal S256x1 .i32) (x1 : Vec Ideal S256x5120 .bf16) (x2 : Vec Ideal S1x5120 .f32) (x3 : Vec Ideal S1x7168 .f32) (x4 : Vec Ideal S1x128 .f32) (fh0 : HbBuf0 (F := Ideal) c hbM0_0) (y7 : Vec Ideal S10240x128 .bf16)  (y8 : Vec Ideal S2048x128 .bf16)  (y9 : Vec Ideal S2048x128 .bf16)  (y10 : Vec Ideal S256x5120 .fp8e4m3)  (y11 : Vec Ideal S256x1 .f32) (w : Vec Ideal S5120x7168 .fp8e4m3) (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare w ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare (blockQ x0 x1 x2 x3 x4 w) ∗ owns (c : Thread nD τ) arg8 fullShare (blockK x0 x1 x2 x3 x4 w) ∗ owns (c : Thread nD τ) arg9 fullShare (blockV x1 x2 x3 w) ∗ owns (c : Thread nD τ) arg10 fullShare (codesV x1 x2) ∗ owns (c : Thread nD τ) arg11 fullShare (scaleV x1 x2) ∗ owns (c : Thread nD τ) arg12 fullShare w ∗ (∃ d, owns (c : Thread nD τ) arg13 fullShare d) ∗ (∃ d, owns (c : Thread nD τ) arg14 fullShare d) ∗ semVal ((c : Thread nD τ), SemLoc.dma 17) 0 ∗ hbPt0 c hbM0_0 fh0 ∗ (∃ W', owes (c : Thread nD τ) 0 W')) -∗ K ⟨⟩))
          ⊢ wp frame (wpE (defs₀ (F := Ideal)) Variants.none c none) Set.univ (cc0__body i arg1 harg1 arg2 harg2 arg3 harg3 arg4 harg4 arg5 harg5 (Memref.whole main_arg2) (Memref.isWhole_whole _) arg7 harg7 arg8 harg8 arg9 harg9 arg10 harg10 arg11 harg11 arg12 harg12 arg13 harg13 arg14 harg14 cc0_scratch3) K := by
  have h := (runB (F := Ideal) c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0 y7 y8 y9 y10 y11 w).2 W K
  rw [ValB.outQ, ValB.outK, ValB.outV, ValB.outCodes, ValB.outScale] at h
  exact h

/-- The weights of core `c` when the region is entered. -/
def wAt (c : Dev nD) : Vec Ideal S5120x7168 .fp8e4m3 := wts c (V m c main_arg2)

/-- What is held beside the windows between points: before the first point the scratch buffers hold anything, after it
    the first one holds the weights. -/
def phiAt (c : Dev nD) (n : Nat) : sProp 𝕄 :=
  if n = 0 then Pipeline.ΦD osem0 spec0 H0 (V m) c
  else iprop(iprop(owns (c : Thread nD τ) scM0_0 fullShare (wAt m c) ∗ (∃ d, owns (c : Thread nD τ) scM0_1 fullShare d) ∗ (∃ d, owns (c : Thread nD τ) scM0_2 fullShare d)) ∗ (∃ r, prngReg c r) ∗ iprop(semVal ((c : Thread nD τ), SemLoc.dma 17) 0) ∗ iprop(hbPt0 c hbM0_0 (V m c main_arg2)))

/-- The proof data of the one pipeline on core `c`: the arrays as the region finds them (`V`); after the body at
    point `t` each input's buffer at its block and each output's at its block in closed form; the invariant `phiAt`;
    nothing owed; full shares. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockQ (iblk m c 0 t) (iblk m c 1 t) (iblk m c 2 t) (iblk m c 3 t) (iblk m c 4 t) (wAt m c)
    | ⟨6, _⟩ => blockK (iblk m c 0 t) (iblk m c 1 t) (iblk m c 2 t) (iblk m c 3 t) (iblk m c 4 t) (wAt m c)
    | ⟨7, _⟩ => blockV (iblk m c 1 t) (iblk m c 2 t) (iblk m c 3 t) (wAt m c)
    | ⟨8, _⟩ => codesV (iblk m c 1 t) (iblk m c 2 t)
    | ⟨9, _⟩ => scaleV (iblk m c 1 t) (iblk m c 2 t)
  Φ t := phiAt m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blockQ (iblk m c 0 t) (iblk m c 1 t) (iblk m c 2 t) (iblk m c 3 t) (iblk m c 4 t) (wAt m c) := by dsimp only [dats]
theorem after0_6 (c : Dev nD) (t : Fin cfg0.N) : (dats m 0 c).after 6 t = blockK (iblk m c 0 t) (iblk m c 1 t) (iblk m c 2 t) (iblk m c 3 t) (iblk m c 4 t) (wAt m c) := by dsimp only [dats]
theorem after0_7 (c : Dev nD) (t : Fin cfg0.N) : (dats m 0 c).after 7 t = blockV (iblk m c 1 t) (iblk m c 2 t) (iblk m c 3 t) (wAt m c) := by dsimp only [dats]
theorem after0_8 (c : Dev nD) (t : Fin cfg0.N) : (dats m 0 c).after 8 t = codesV (iblk m c 1 t) (iblk m c 2 t) := by dsimp only [dats]
theorem after0_9 (c : Dev nD) (t : Fin cfg0.N) : (dats m 0 c).after 9 t = scaleV (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point: the inputs' buffers hold their blocks (`before0_W`); the first point fetches the weights
    (`runA_closed`), a later one finds them in the scratch buffer (`runB_closed`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5, after0_6, after0_7, after0_8, after0_9]
  have hs : (dats m 0 c).Φ t.succ = phiAt m c (t.val + 1) := rfl
  have hp : (dats m 0 c).Φ t.castSucc = phiAt m c t.val := rfl
  rw [hs, hp]
  unfold Dat.owesAt Pipeline.owesWithin
  rw [show (dats m 0 c).owed t.castSucc = 0 from rfl, show (dats m 0 c).owed t.succ = 0 from rfl]
  have hN : t.val < 96 := lt_of_lt_of_eq t.isLt (show cfg0.N = 96 from N_0)
  unfold phiAt
  rw [if_neg (Nat.succ_ne_zero t.val)]
  by_cases h0 : t.val = 0
  · rw [if_pos h0, PhiD0_eq]
    iintro ⟨⟨⟨⟨%ds0, HS0⟩, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA_closed c (grid0.coords t) _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (V m c main_arg2) _ _ _ _ _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, H8, H9, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [if_neg h0]
    iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB_closed c (grid0.coords t) _ _ _ _ _ _ _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (V m c main_arg2) _ _ _ _ _ (wAt m c) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, H8, H9, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Nothing of the scratch buffers is needed at the end. -/
theorem phi_out (c : Dev nD) : phiAt m c 96 ⊢ Pipeline.ΦD osem0 spec0 H0 (V m) c := by
  unfold phiAt
  rw [if_neg (by omega), PhiD0_eq]
  iintro ⟨⟨HS0, HS1, HS2⟩, Hg, Hq0, Hh0⟩
  isplitl [HS0 HS1 HS2]
  · isplitl [HS0]; · iexists _; iexact HS0
    isplitl [HS1]; · iexact HS1
    iexact HS2
  isplitl [Hg]; · iexact Hg
  isplitl [Hq0]; · iexact Hq0
  iexact Hh0

/-! ## The run and the frame -/

-- `θ_run_frame_dma`'s implicit arguments are found by unifying its conclusion with this one, which takes unfolding plain
-- definitions in a metavariable's type
set_option backward.isDefEq.respectTransparency.types false in
/-- The launch: every array ends as the proof data say, every other buffer as the region found it, every semaphore
    counter at zero. -/
theorem run_main_quiescent : θ_run defs (onTc (τ := τ) (main (F := Ideal))) (s₀ m ρ) (fun r => Pipeline.FramePost cfgs (dats m) (0 : Fin 1) (V m) r ∧ r.2.sem = fun _ => 0) :=
  Pipeline.θ_run_frame_dma (Q' := fun r => Pipeline.FramePost cfgs (dats m) (0 : Fin 1) (V m) r ∧ r.2.sem = fun _ => 0) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun c => phi_out m c) (hQ' := fun _ h => h)

/-- The argument arrays end as they were at the launch. -/
theorem kept (r : PUnit × MemSt nD τ sig (Elt Ideal)) (h : Pipeline.FramePost cfgs (dats m) (0 : Fin 1) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- The frame: the program ends without fault, its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_main_quiescent m ρ)

end Cert.KernelIdeal.Body

end
-- ==== Proof.Value.Spec.lean ====
module

public import proofs.«01_k».proof.Proof.Value.Row

/-!
  The five results, element by element, as functions of the five arguments.

  Token `T` is row `T / 8192`, `T % 8192` of x. `codeT`, `scaleT`: its codes and its scale. `yT`: the scaled product at
  column `n` of the weights. `rotT`: the rotary embedding of the 128 columns from `o`.
-/

@[expose] public section

noncomputable section

namespace Cert.Quant

open Idealize.ShloMosaic Idealize.ShloMosaic.ValueIdx

variable (x : Vec Ideal ⟨3, ![3, 8192, 5120]⟩ .bf16) (g : Vec Ideal ⟨1, ![5120]⟩ .f32) (w : Vec Ideal ⟨2, ![5120, 7168]⟩ .fp8e4m3)
  (ws : Vec Ideal ⟨1, ![7168]⟩ .f32) (p : Vec Ideal ⟨2, ![3, 8192]⟩ .i32)

/-- Token `T`'s row of x, -/
def xT (T : Fin 24576) : Fin 5120 → EReal :=
  fun k => x (ix3 (⟨T.val / 8192, Nat.div_lt_of_lt_mul T.isLt⟩ : Fin 3) (⟨T.val % 8192, Nat.mod_lt _ (by omega)⟩ : Fin 8192) k)

/-- and its position. -/
def posT (T : Fin 24576) : EReal :=
  (((p (ix2 (⟨T.val / 8192, Nat.div_lt_of_lt_mul T.isLt⟩ : Fin 3) (⟨T.val % 8192, Nat.mod_lt _ (by omega)⟩ : Fin 8192))).toInt : ℝ) : EReal)

def gT : Fin 5120 → EReal := fun k => g (ix1 k)

def codeT (T : Fin 24576) (k : Fin 5120) : EReal := codeR (xT x T) (gT g) k

def scaleT (T : Fin 24576) : EReal := rowScale (xT x T) (gT g)

def yT (T : Fin 24576) (n : Fin 7168) : EReal :=
  (0 + ∑ k : Fin 5120, codeT x g T k * w (ix2 k n)) * scaleT x g T * ws (ix1 n)

/-- The frequency of lane `i` of 64: `10000 ^ (-(0 + 2 i) / 128)`. -/
def freqT (i : Fin 64) : EReal :=
  Ideal.pow (Ideal.ofBits .f32 0x461C4000#32)
    (Ideal.div (-(Ideal.ofBits .f32 0x00000000#32 + Ideal.ofBits .f32 0x40000000#32 * (((BitVec.ofNat 32 i.val).toInt : ℝ) : EReal)))
      (Ideal.ofBits .f32 0x43000000#32))

/-- The angle of token `T` at lane `l` of 128. -/
def angT (T : Fin 24576) (l : Fin 128) : EReal := posT p T * freqT ⟨l.val % 64, Nat.mod_lt _ (by omega)⟩

/-- Column `n` of the 7168. -/
def colT (n : Nat) : Fin 7168 := ⟨n % 7168, Nat.mod_lt _ (by omega)⟩

def rotT (o : Nat) (T : Fin 24576) (l : Fin 128) : EReal :=
  if l.val < 64 then
    yT x g w ws T (colT (o + l.val)) * Ideal.cos (angT p T l) + (0 - yT x g w ws T (colT (o + (l.val + 64)))) * Ideal.sin (angT p T l)
  else
    yT x g w ws T (colT (o + l.val)) * Ideal.cos (angT p T l) + yT x g w ws T (colT (o + (l.val - 64))) * Ideal.sin (angT p T l)

/-- The q heads: head `h` of token `T` at place `40 T + h`, -/
def qT : Vec Ideal ⟨2, ![983040, 128]⟩ .bf16 := fun i =>
  rotT x g w ws p (128 * ((i 0).val % 40)) ⟨(i 0).val / 40, Nat.div_lt_of_lt_mul (i 0).isLt⟩ (i 1)

/-- the k heads, -/
def kT : Vec Ideal ⟨2, ![196608, 128]⟩ .bf16 := fun i =>
  rotT x g w ws p (5120 + 128 * ((i 0).val % 8)) ⟨(i 0).val / 8, Nat.div_lt_of_lt_mul (i 0).isLt⟩ (i 1)

/-- the v heads, -/
def vT : Vec Ideal ⟨2, ![196608, 128]⟩ .bf16 := fun i =>
  yT x g w ws ⟨(i 0).val / 8, Nat.div_lt_of_lt_mul (i 0).isLt⟩ (colT (6144 + 128 * ((i 0).val % 8) + (i 1).val))

/-- the codes, -/
def codesT : Vec Ideal ⟨2, ![24576, 5120]⟩ .fp8e4m3 := fun i => codeT x g (i 0) (i 1)

/-- the scales. -/
def scalesT : Vec Ideal ⟨2, ![24576, 1]⟩ .f32 := fun i => scaleT x g (i 0)

end Cert.Quant

end
-- ==== Proof.Value.KernelIn.lean ====
module

public import proofs.«01_k».proof.Proof.IdealBody.Frame
public import proofs.«01_k».proof.Proof.Value.Spec
public import Idealize.ShloMosaic.Lib.StableHlo.ReadAt
public import Idealize.ShloMosaic.Lib.Pipeline.Value

/-!
  What the idealized kernel's body is given at a grid point, in terms of the arguments: the arrays that the host code
  prepares (`V_x`, `V_gain`, `V_ws`, `V_pos`, `V_freq`), and the blocks of them.
-/

@[expose] public section

set_option maxRecDepth 16384

noncomputable section

namespace Cert.KernelIdeal.Val

open Idealize.ShloMosaic hiding ix0 ix1 ix2 ix3
open Idealize.ShloMosaic.TcCoe Idealize.ShloMosaic.ValueIdx
open Cert.KernelIdeal.Gen Cert.KernelIdeal.Body Cert.Quant

variable (m : (ℓ : Loc nD τ sig) → Buf (Elt Ideal) ℓ) (c : Dev nD)

/-- The arguments. -/
abbrev aX : Vec Ideal S3x8192x5120 .bf16 := m ((c : Thread nD τ).loc main_arg0)
abbrev aG : Vec Ideal S5120 .f32 := m ((c : Thread nD τ).loc main_arg1)
abbrev aW : Vec Ideal S5120x7168 .fp8e4m3 := m ((c : Thread nD τ).loc main_arg2)
abbrev aS : Vec Ideal S7168 .f32 := m ((c : Thread nD τ).loc main_arg3)
abbrev aP : Vec Ideal S3x8192 .i32 := m ((c : Thread nD τ).loc main_arg4)

theorem V_x : V m c main_v13 = shapeCast S24576x5120 (aX m c) shapeCasts_S3x8192x5120_S24576x5120 := by
  unfold V hostOps0
  after_reads_simp
  rfl

theorem V_pos : V m c main_v12 = shapeCast S24576x1 (aP m c) shapeCasts_S3x8192_S24576x1 := by
  unfold V hostOps0
  after_reads_simp
  rfl

theorem V_gain : V m c main_v14 = shapeCast S1x5120 (aG m c) shapeCasts_S5120_S1x5120 := by
  unfold V hostOps0
  after_reads_simp
  rfl

theorem V_ws : V m c main_v15 = shapeCast S1x7168 (aS m c) shapeCasts_S7168_S1x7168 := by
  unfold V hostOps0
  after_reads_simp
  rfl

/-- The 64 frequencies. -/
def freqV : FVec Ideal S64 .f32 :=
  Host.powf (broadcastInDim S64 ![] bcast_S_S64 (constant S_ .f32 0x461C4000#32))
    (Host.divf (Host.negf (addf (broadcastInDim S64 ![] bcast_S_S64 (constant S_ .f32 0x00000000#32))
        (mulf (broadcastInDim S64 ![] bcast_S_S64 (constant S_ .f32 0x40000000#32)) (sitofp .f32 (iotaInDim S64 32 0)))))
      (broadcastInDim S64 ![] bcast_S_S64 (constant S_ .f32 0x43000000#32)))

theorem freqV_apply (i : Fin 64) : freqV (ix1 i) = freqT i := rfl

theorem V_freq : V m c main_v11 = shapeCast S1x128 (concatenate S128 0 [⟨S64, freqV⟩, ⟨S64, freqV⟩] concatenates_S64_S64_S128_d0) shapeCasts_S128_S1x128 := by
  have h9 : StableHlo.upto hostOps0 (fun b => m (c, b)) 14 (Proc.devRef .tc main_v9) = freqV := by
    unfold hostOps0
    after_reads_simp
    rfl
  unfold V
  unfold hostOps0 at h9 ⊢
  after_reads_simp
  rw [h9]
  rfl

theorem V_x_apply (T : Fin 24576) (k : Fin 5120) : V m c main_v13 (ix2 T k) = xT (aX m c) T k := by
  rw [V_x]
  refine shapeCast_apply _ _ _ _ ?_
  rw [Shape.rowMajor_val_two, Shape.rowMajor_val_three]
  show (T.val / 8192 * 8192 + T.val % 8192) * 5120 + k.val = T.val * 5120 + k.val
  omega

theorem V_pos_apply (T : Fin 24576) : (((V m c main_v12 (ix2 T 0)).toInt : ℝ) : EReal) = posT (aP m c) T := by
  rw [V_pos]
  unfold posT
  refine congrArg (fun b : BitVec 32 => ((b.toInt : ℝ) : EReal)) ?_
  refine shapeCast_apply _ _ _ _ ?_
  rw [Shape.rowMajor_val_two, Shape.rowMajor_val_two]
  show T.val / 8192 * 8192 + T.val % 8192 = T.val * 1 + 0
  omega

theorem V_gain_apply (k : Fin 5120) : V m c main_v14 (ix2 0 k) = aG m c (ix1 k) := by
  rw [V_gain]
  refine shapeCast_apply _ _ _ _ ?_
  rw [Shape.rowMajor_val_two, Shape.rowMajor_val_one]
  show k.val = 0 * 5120 + k.val
  omega

theorem V_ws_apply (n : Fin 7168) : V m c main_v15 (ix2 0 n) = aS m c (ix1 n) := by
  rw [V_ws]
  refine shapeCast_apply _ _ _ _ ?_
  rw [Shape.rowMajor_val_two, Shape.rowMajor_val_one]
  show n.val = 0 * 7168 + n.val
  omega

theorem V_freq_apply (l : Fin 128) : V m c main_v11 (ix2 0 l) = freqT ⟨l.val % 64, Nat.mod_lt _ (by omega)⟩ := by
  rw [V_freq]
  refine (shapeCast_apply _ _ _ (ix1 l) ?_).trans ?_
  · rw [Shape.rowMajor_val_two, Shape.rowMajor_val_one]
    show l.val = 0 * 128 + l.val
    omega
  · by_cases h : l.val < 64
    · refine (concatenate_pair_apply_left 0 freqV freqV _ (ix1 l) rfl (ix1 ⟨l.val, h⟩) (fun b => by match b with | ⟨0, _⟩ => rfl)).trans ?_
      rw [freqV_apply]
      exact congrArg freqT (Fin.ext (Nat.mod_eq_of_lt h).symm)
    · have hl := l.isLt
      refine (concatenate_pair_apply_right 0 freqV freqV _ (ix1 l) rfl rfl (ix1 ⟨l.val - 64, by omega⟩)
        (fun b hb => by match b with | ⟨0, _⟩ => exact absurd rfl hb) (show l.val - 64 + 64 = l.val by omega)).trans ?_
      rw [freqV_apply]
      exact congrArg freqT (Fin.ext (show l.val - 64 = l.val % 64 by omega))

/-! ## The blocks -/

theorem idx0 : ∀ t : Fin cfg0.N, win0_0.index t 0 = t.val ∧ win0_0.index t 1 = 0 := (by decide +kernel : ∀ t : Fin grid0.N, win0_0.index t 0 = t.val ∧ win0_0.index t 1 = 0)
theorem idx1 : ∀ t : Fin cfg0.N, win0_1.index t 0 = t.val ∧ win0_1.index t 1 = 0 := (by decide +kernel : ∀ t : Fin grid0.N, win0_1.index t 0 = t.val ∧ win0_1.index t 1 = 0)
theorem idx2 : ∀ t : Fin cfg0.N, win0_2.index t 0 = 0 ∧ win0_2.index t 1 = 0 := (by decide +kernel : ∀ t : Fin grid0.N, win0_2.index t 0 = 0 ∧ win0_2.index t 1 = 0)
theorem idx3 : ∀ t : Fin cfg0.N, win0_3.index t 0 = 0 ∧ win0_3.index t 1 = 0 := (by decide +kernel : ∀ t : Fin grid0.N, win0_3.index t 0 = 0 ∧ win0_3.index t 1 = 0)
theorem idx4 : ∀ t : Fin cfg0.N, win0_4.index t 0 = 0 ∧ win0_4.index t 1 = 0 := (by decide +kernel : ∀ t : Fin grid0.N, win0_4.index t 0 = 0 ∧ win0_4.index t 1 = 0)

/-- Row `r` of block `t` is token `256 t + r`. -/
def tok (t : Fin cfg0.N) (r : Fin 256) : Fin 24576 := ⟨256 * t.val + r.val, by have h : t.val < 96 := lt_of_lt_of_eq t.isLt N_0; have := r.isLt; omega⟩

theorem blk_x (t : Fin cfg0.N) (r : Fin 256) (k : Fin 5120) : (iblk m c 1 t : Vec Ideal S256x5120 .bf16) (ix2 r k) = xT (aX m c) (tok t r) k := by
  rw [← V_x_apply]
  show V m c main_v13 ((win0_1.rect t).emb (ix2 r k)) = _
  congr 1
  funext a
  apply Fin.ext
  match a with
  | ⟨0, _⟩ => refine (win0_1.rect_emb_val t (ix2 r k) 0).trans ?_; rw [(idx1 t).1]; show t.val * 256 + r.val = 256 * t.val + r.val; omega
  | ⟨1, _⟩ => refine (win0_1.rect_emb_val t (ix2 r k) 1).trans ?_; rw [(idx1 t).2]; show 0 * 5120 + k.val = k.val; omega

theorem blk_pos (t : Fin cfg0.N) (r : Fin 256) : ((((iblk m c 0 t : Vec Ideal S256x1 .i32) (ix2 r 0)).toInt : ℝ) : EReal) = posT (aP m c) (tok t r) := by
  rw [← V_pos_apply]
  refine congrArg (fun b : BitVec 32 => ((b.toInt : ℝ) : EReal)) ?_
  show V m c main_v12 ((win0_0.rect t).emb (ix2 r 0)) = _
  congr 1
  funext a
  apply Fin.ext
  match a with
  | ⟨0, _⟩ => refine (win0_0.rect_emb_val t (ix2 r 0) 0).trans ?_; rw [(idx0 t).1]; show t.val * 256 + r.val = 256 * t.val + r.val; omega
  | ⟨1, _⟩ => refine (win0_0.rect_emb_val t (ix2 r 0) 1).trans ?_; rw [(idx0 t).2]; rfl

theorem blk_gain (t : Fin cfg0.N) (k : Fin 5120) : (iblk m c 2 t : Vec Ideal S1x5120 .f32) (ix2 0 k) = aG m c (ix1 k) := by
  rw [← V_gain_apply]
  show V m c main_v14 ((win0_2.rect t).emb (ix2 0 k)) = _
  congr 1
  funext a
  apply Fin.ext
  match a with
  | ⟨0, _⟩ => refine (win0_2.rect_emb_val t (ix2 0 k) 0).trans ?_; rw [(idx2 t).1]; rfl
  | ⟨1, _⟩ => refine (win0_2.rect_emb_val t (ix2 0 k) 1).trans ?_; rw [(idx2 t).2]; show 0 * 5120 + k.val = k.val; omega

theorem blk_ws (t : Fin cfg0.N) (n : Fin 7168) : (iblk m c 3 t : Vec Ideal S1x7168 .f32) (ix2 0 n) = aS m c (ix1 n) := by
  rw [← V_ws_apply]
  show V m c main_v15 ((win0_3.rect t).emb (ix2 0 n)) = _
  congr 1
  funext a
  apply Fin.ext
  match a with
  | ⟨0, _⟩ => refine (win0_3.rect_emb_val t (ix2 0 n) 0).trans ?_; rw [(idx3 t).1]; rfl
  | ⟨1, _⟩ => refine (win0_3.rect_emb_val t (ix2 0 n) 1).trans ?_; rw [(idx3 t).2]; show 0 * 7168 + n.val = n.val; omega

theorem blk_freq (t : Fin cfg0.N) (l : Fin 128) : (iblk m c 4 t : Vec Ideal S1x128 .f32) (ix2 0 l) = freqT ⟨l.val % 64, Nat.mod_lt _ (by omega)⟩ := by
  rw [← V_freq_apply m c]
  show V m c main_v11 ((win0_4.rect t).emb (ix2 0 l)) = _
  congr 1
  funext a
  apply Fin.ext
  match a with
  | ⟨0, _⟩ => refine (win0_4.rect_emb_val t (ix2 0 l) 0).trans ?_; rw [(idx4 t).1]; rfl
  | ⟨1, _⟩ => refine (win0_4.rect_emb_val t (ix2 0 l) 1).trans ?_; rw [(idx4 t).2]; show 0 * 128 + l.val = l.val; omega

/-- The weights. -/
theorem wAt_eq : wAt m c = aW m c := (V_main_arg2 m c)

end Cert.KernelIdeal.Val

end
-- ==== Proof.Value.KernelOut.lean ====
module

public import proofs.«01_k».proof.Proof.Value.KernelIn
public import Idealize.ShloMosaic.Lib.Pipeline.ValueKit.Geometry

/-!
  The idealized kernel's five arrays after the last grid point are `qT`, `kT`, `vT`, `codesT`, `scalesT` of the arguments.
  Each block's element is the specification's (`rot_eq`, `plain_eq`); the 96 blocks cover each array.
-/

@[expose] public section

set_option maxRecDepth 16384

noncomputable section

namespace Cert.KernelIdeal.Val

open Idealize.ShloMosaic hiding ix0 ix1 ix2 ix3
open Idealize.ShloMosaic.TcCoe Idealize.ShloMosaic.ValueIdx
open Cert.KernelIdeal.Gen Cert.KernelIdeal.Body Cert.Quant

variable (m : (ℓ : Loc nD τ sig) → Buf (Elt Ideal) ℓ) (c : Dev nD) (t : Fin cfg0.N)

/-- Row `r` of block `t` is the token's row, -/
theorem xrow_eq (r : Fin 256) : xrow (iblk m c 1 t) r = xT (aX m c) (tok t r) := funext fun k => blk_x m c t r k

/-- and the gain is the argument. -/
theorem grow_eq : grow (iblk m c 2 t) = gT (aG m c) := funext fun k => blk_gain m c t k

theorem blk_codes (r : Fin 256) (k : Fin 5120) : codesV (iblk m c 1 t) (iblk m c 2 t) (ix2 r k) = codeT (aX m c) (aG m c) (tok t r) k := by
  show codeR (xrow (iblk m c 1 t) r) (grow (iblk m c 2 t)) k = _
  rw [xrow_eq, grow_eq]; rfl

theorem blk_scale (r : Fin 256) (z : Fin 1) : scaleV (iblk m c 1 t) (iblk m c 2 t) (ix2 r z) = scaleT (aX m c) (aG m c) (tok t r) := by
  show rowScale (xrow (iblk m c 1 t) r) (grow (iblk m c 2 t)) = _
  rw [xrow_eq, grow_eq]; rfl

theorem angle_eq (r : Fin 256) (l : Fin 128) : angle (iblk m c 0 t) (iblk m c 4 t) r l = angT (aP m c) (tok t r) l := by
  unfold angle angT
  rw [blk_pos, blk_freq]

/-- The scaled product of row `r` and column `n`. -/
theorem prod_eq (r : Fin 256) (n : Fin 7168) :
    prod (codesV (iblk m c 1 t) (iblk m c 2 t)) (scaleV (iblk m c 1 t) (iblk m c 2 t)) (wAt m c) (iblk m c 3 t) r n
      = yT (aX m c) (aG m c) (aW m c) (aS m c) (tok t r) n := by
  have h : ∑ k : Fin 5120, codesV (iblk m c 1 t) (iblk m c 2 t) (ix2 r k) * aW m c (ix2 k n)
      = ∑ k : Fin 5120, codeT (aX m c) (aG m c) (tok t r) k * aW m c (ix2 k n) :=
    Finset.sum_congr rfl fun k _ => congrArg (· * _) (blk_codes m c t r k)
  unfold prod yT
  rw [blk_scale, blk_ws, wAt_eq, h]

theorem col_eq (o l : Nat) : col (o + 128 * 0 + l) = colT (o + l) := rfl

theorem plain_eq (o : Nat) (r : Fin 256) (l : Fin 128) :
    headPlain (iblk m c 1 t) (iblk m c 2 t) (iblk m c 3 t) (wAt m c) o r l
      = yT (aX m c) (aG m c) (aW m c) (aS m c) (tok t r) (colT (o + l.val)) := by
  unfold headPlain plainElt
  rw [prod_eq, ← col_eq]; rfl

/-- One element of a turned head: the kernel turns the head by 64 lanes and negates the sine of the first 64, the
    specification negates the second half and changes the halves over. -/
theorem rot_eq (o : Nat) (r : Fin 256) (l : Fin 128) :
    headRot (iblk m c 0 t) (iblk m c 1 t) (iblk m c 2 t) (iblk m c 3 t) (iblk m c 4 t) (wAt m c) o r l
      = rotT (aX m c) (aG m c) (aW m c) (aS m c) (aP m c) o (tok t r) l := by
  have hc : cosV (iblk m c 0 t) (iblk m c 4 t) (ix2 r l) = Ideal.cos (angT (aP m c) (tok t r) l) :=
    congrArg Ideal.cos (angle_eq m c t r l)
  have hs : sinV (iblk m c 0 t) (iblk m c 4 t) (ix2 r l)
      = if l.val < 64 then 0 - Ideal.sin (angT (aP m c) (tok t r) l) else Ideal.sin (angT (aP m c) (tok t r) l) := by
    rw [← angle_eq]; rfl
  have hl := l.isLt
  unfold headRot rotElt rotT
  rw [prod_eq, prod_eq, hc, hs]
  show yT _ _ _ _ _ (colT (o + l.val)) * _ + yT _ _ _ _ _ (colT (o + (l.val + 64) % 128)) * _ = _
  by_cases h : l.val < 64
  · rw [if_pos h, if_pos h, Nat.mod_eq_of_lt (by omega : l.val + 64 < 128), sub_eq_add_neg, sub_eq_add_neg, zero_add, zero_add,
      mul_neg, neg_mul]
  · rw [if_neg h, if_neg h, (by omega : (l.val + 64) % 128 = l.val - 64)]

/-! ## The arrays -/

theorem idx5 : ∀ t : Fin cfg0.N, win0_5.index t 0 = t.val ∧ win0_5.index t 1 = 0 := (by decide +kernel : ∀ t : Fin grid0.N, win0_5.index t 0 = t.val ∧ win0_5.index t 1 = 0)
theorem idx6 : ∀ t : Fin cfg0.N, win0_6.index t 0 = t.val ∧ win0_6.index t 1 = 0 := (by decide +kernel : ∀ t : Fin grid0.N, win0_6.index t 0 = t.val ∧ win0_6.index t 1 = 0)
theorem idx7 : ∀ t : Fin cfg0.N, win0_7.index t 0 = t.val ∧ win0_7.index t 1 = 0 := (by decide +kernel : ∀ t : Fin grid0.N, win0_7.index t 0 = t.val ∧ win0_7.index t 1 = 0)
theorem idx8 : ∀ t : Fin cfg0.N, win0_8.index t 0 = t.val ∧ win0_8.index t 1 = 0 := (by decide +kernel : ∀ t : Fin grid0.N, win0_8.index t 0 = t.val ∧ win0_8.index t 1 = 0)
theorem idx9 : ∀ t : Fin cfg0.N, win0_9.index t 0 = t.val ∧ win0_9.index t 1 = 0 := (by decide +kernel : ∀ t : Fin grid0.N, win0_9.index t 0 = t.val ∧ win0_9.index t 1 = 0)

/-- The q array: block `t` holds the heads of 256 tokens from `256 t`. -/
theorem out_q : (dats m 0 c).arrAt 5 cfg0.N = qT (aX m c) (aG m c) (aW m c) (aS m c) (aP m c) := by
  refine (dats m 0 c).arrAt_eq_of_covers 5 _ (by decide +kernel) fun t _ y => ?_
  have h0 : ((win0_5.rect t).emb y 0).val = t.val * 10240 + (y 0).val := (win0_5.rect_emb_val t y 0).trans (by rw [(idx5 t).1]; rfl)
  have h1 : ((win0_5.rect t).emb y 1).val = (y 1).val := (win0_5.rect_emb_val t y 1).trans (by rw [(idx5 t).2]; show 0 * 128 + _ = _; omega)
  have hy : (y 0).val < 10240 := (y 0).isLt
  rw [after0_5]
  refine (rot_eq m c t (128 * ((y 0).val % 40)) ⟨(y 0).val / 40, Nat.div_lt_of_lt_mul hy⟩ (y 1)).trans ?_
  have ho : ((win0_5.rect t).emb y 0).val % 40 = (y 0).val % 40 := by omega
  have hT : (⟨((win0_5.rect t).emb y 0).val / 40, Nat.div_lt_of_lt_mul ((win0_5.rect t).emb y 0).isLt⟩ : Fin 24576)
      = tok t ⟨(y 0).val / 40, Nat.div_lt_of_lt_mul hy⟩ := Fin.ext (by show _ / 40 = 256 * t.val + (y 0).val / 40; omega)
  have hl : ((win0_5.rect t).emb y 1 : Fin 128) = y 1 := Fin.ext h1
  show _ = rotT _ _ _ _ _ (128 * (((win0_5.rect t).emb y 0).val % 40)) ⟨((win0_5.rect t).emb y 0).val / 40, _⟩ ((win0_5.rect t).emb y 1)
  rw [ho, hT, hl]

/-- The k array. -/
theorem out_k : (dats m 0 c).arrAt 6 cfg0.N = kT (aX m c) (aG m c) (aW m c) (aS m c) (aP m c) := by
  refine (dats m 0 c).arrAt_eq_of_covers 6 _ (by decide +kernel) fun t _ y => ?_
  have h0 : ((win0_6.rect t).emb y 0).val = t.val * 2048 + (y 0).val := (win0_6.rect_emb_val t y 0).trans (by rw [(idx6 t).1]; rfl)
  have h1 : ((win0_6.rect t).emb y 1).val = (y 1).val := (win0_6.rect_emb_val t y 1).trans (by rw [(idx6 t).2]; show 0 * 128 + _ = _; omega)
  have hy : (y 0).val < 2048 := (y 0).isLt
  rw [after0_6]
  refine (rot_eq m c t (5120 + 128 * ((y 0).val % 8)) ⟨(y 0).val / 8, Nat.div_lt_of_lt_mul hy⟩ (y 1)).trans ?_
  have ho : ((win0_6.rect t).emb y 0).val % 8 = (y 0).val % 8 := by omega
  have hT : (⟨((win0_6.rect t).emb y 0).val / 8, Nat.div_lt_of_lt_mul ((win0_6.rect t).emb y 0).isLt⟩ : Fin 24576)
      = tok t ⟨(y 0).val / 8, Nat.div_lt_of_lt_mul hy⟩ := Fin.ext (by show _ / 8 = 256 * t.val + (y 0).val / 8; omega)
  have hl : ((win0_6.rect t).emb y 1 : Fin 128) = y 1 := Fin.ext h1
  show _ = rotT _ _ _ _ _ (5120 + 128 * (((win0_6.rect t).emb y 0).val % 8)) ⟨((win0_6.rect t).emb y 0).val / 8, _⟩ ((win0_6.rect t).emb y 1)
  rw [ho, hT, hl]

/-- The v array. -/
theorem out_v : (dats m 0 c).arrAt 7 cfg0.N = vT (aX m c) (aG m c) (aW m c) (aS m c) := by
  refine (dats m 0 c).arrAt_eq_of_covers 7 _ (by decide +kernel) fun t _ y => ?_
  have h0 : ((win0_7.rect t).emb y 0).val = t.val * 2048 + (y 0).val := (win0_7.rect_emb_val t y 0).trans (by rw [(idx7 t).1]; rfl)
  have h1 : ((win0_7.rect t).emb y 1).val = (y 1).val := (win0_7.rect_emb_val t y 1).trans (by rw [(idx7 t).2]; show 0 * 128 + _ = _; omega)
  have hy : (y 0).val < 2048 := (y 0).isLt
  rw [after0_7]
  refine (plain_eq m c t (6144 + 128 * ((y 0).val % 8)) ⟨(y 0).val / 8, Nat.div_lt_of_lt_mul hy⟩ (y 1)).trans ?_
  have ho : ((win0_7.rect t).emb y 0).val % 8 = (y 0).val % 8 := by omega
  have hT : (⟨((win0_7.rect t).emb y 0).val / 8, Nat.div_lt_of_lt_mul ((win0_7.rect t).emb y 0).isLt⟩ : Fin 24576)
      = tok t ⟨(y 0).val / 8, Nat.div_lt_of_lt_mul hy⟩ := Fin.ext (by show _ / 8 = 256 * t.val + (y 0).val / 8; omega)
  show _ = yT _ _ _ _ ⟨((win0_7.rect t).emb y 0).val / 8, _⟩ (colT (6144 + 128 * (((win0_7.rect t).emb y 0).val % 8) + ((win0_7.rect t).emb y 1).val))
  rw [ho, hT, h1]

/-- The array of codes. -/
theorem out_codes : (dats m 0 c).arrAt 8 cfg0.N = codesT (aX m c) (aG m c) := by
  refine (dats m 0 c).arrAt_eq_of_covers 8 _ (by decide +kernel) fun t _ y => ?_
  have h0 : ((win0_8.rect t).emb y 0).val = t.val * 256 + (y 0).val := (win0_8.rect_emb_val t y 0).trans (by rw [(idx8 t).1]; rfl)
  have h1 : ((win0_8.rect t).emb y 1).val = (y 1).val := (win0_8.rect_emb_val t y 1).trans (by rw [(idx8 t).2]; show 0 * 5120 + _ = _; omega)
  rw [after0_8]
  refine (blk_codes m c t (y 0) (y 1)).trans ?_
  have hT : ((win0_8.rect t).emb y 0 : Fin 24576) = tok t (y 0) := Fin.ext (by show _ = 256 * t.val + (y 0).val; omega)
  have hl : ((win0_8.rect t).emb y 1 : Fin 5120) = y 1 := Fin.ext h1
  show _ = codeT _ _ ((win0_8.rect t).emb y 0) ((win0_8.rect t).emb y 1)
  rw [hT, hl]

/-- The array of scales. -/
theorem out_scale : (dats m 0 c).arrAt 9 cfg0.N = scalesT (aX m c) (aG m c) := by
  refine (dats m 0 c).arrAt_eq_of_covers 9 _ (by decide +kernel) fun t _ y => ?_
  have h0 : ((win0_9.rect t).emb y 0).val = t.val * 256 + (y 0).val := (win0_9.rect_emb_val t y 0).trans (by rw [(idx9 t).1]; rfl)
  rw [after0_9]
  refine (blk_scale m c t (y 0) (y 1)).trans ?_
  have hT : ((win0_9.rect t).emb y 0 : Fin 24576) = tok t (y 0) := Fin.ext (by show _ = 256 * t.val + (y 0).val; omega)
  show _ = scaleT _ _ ((win0_9.rect t).emb y 0)
  rw [hT]

end Cert.KernelIdeal.Val

end
-- ==== Proof.Value.KernelEnd.lean ====
module

public import proofs.«01_k».proof.Proof.Value.KernelOut
public import Idealize.ShloMosaic.Lib.Pipeline.ValueKit.Geometry

/-!
  What the kernel's run leaves: the five results as functions of the arguments, and the arguments.
-/

@[expose] public section

noncomputable section

namespace Cert.KernelIdeal.Val

open Idealize.ShloMosaic Idealize.ShloMosaic.TcCoe
open Cert.KernelIdeal.Gen Cert.KernelIdeal.Body Cert.Quant

variable (m : (ℓ : Loc nD τ sig) → Buf (Elt Ideal) ℓ) (ρ : Dev nD → PrngReg)

/-- The kernel's results and arguments after the run. -/
theorem run_values : θ_run defs (onTc (τ := τ) (main (F := Ideal))) ⟨m, fun _ => 0, ρ⟩ (fun r => ∀ c : Dev nD,
      r.2.mem ((c.tc : Thread nD τ).loc main_v16_0) = qT (aX m c) (aG m c) (aW m c) (aS m c) (aP m c)
      ∧ r.2.mem ((c.tc : Thread nD τ).loc main_v16_1) = kT (aX m c) (aG m c) (aW m c) (aS m c) (aP m c)
      ∧ r.2.mem ((c.tc : Thread nD τ).loc main_v16_2) = vT (aX m c) (aG m c) (aW m c) (aS m c)
      ∧ r.2.mem ((c.tc : Thread nD τ).loc main_v16_3) = codesT (aX m c) (aG m c)
      ∧ r.2.mem ((c.tc : Thread nD τ).loc main_v16_4) = scalesT (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).1 5).trans (out_q m c), ((h.1 c).1 6).trans (out_k m c), ((h.1 c).1 7).trans (out_v m c),
     ((h.1 c).1 8).trans (out_codes m c), ((h.1 c).1 9).trans (out_scale m c), kept m r h.1 c⟩) (run_main_quiescent m ρ)

end Cert.KernelIdeal.Val

end
-- ==== Proof.Value.RefBody.lean ====
module

public import proofs.«01_k».proof.Proof.Gen.ReferenceIdeal.Value
public import proofs.«01_k».proof.Proof.Value.Spec
public import Idealize.ShloMosaic.Lib.MatmulPlain
public import Idealize.ShloMosaic.Lib.ValueLayout
public import Idealize.ShloMosaic.Lib.Pipeline.ValueKit.Geometry

/-!
  What the reference's one kernel body stores, element by element, in terms of the six arrays it is given: the scaled
  product (`prodR_apply`), the rotary embedding of a group of heads (`rotary_apply`), and the four stored arrays.
-/

@[expose] public section

set_option maxRecDepth 16384

noncomputable section

namespace Cert.ReferenceIdeal.Val

open Idealize.ShloMosaic
open Idealize.ShloMosaic.TcCoe Idealize.ShloMosaic.ValueIdx
open Cert.ReferenceIdeal.Gen Cert.Quant

variable (x0 : Vec Ideal S24576x5120 .f32) (x1 : Vec Ideal S5120x7168 .fp8e4m3) (x2 : Vec Ideal S24576x1 .f32) (x3 : Vec Ideal S1x7168 .f32)
  (x4 x5 : Vec Ideal S24576x128 .f32)

/-- The scaled product of token `T` and column `n`. -/
theorem prodR_apply (T : Fin 24576) (n : Fin 7168) :
    k0_pay4 (F := Ideal) x0 x1 x2 x3 (ix2 T n) = (0 + ∑ k : Fin 5120, x0 (ix2 T k) * x1 (ix2 k n)) * x2 (ix2 T 0) * x3 (ix2 0 n) := by
  unfold k0_pay4 k0_pay3
  simp only [mulf_apply]
  rw [broadcastTo_1b_ab_apply]
  have e1 : broadcastTo S24576x7168 (shapeCast S24576x1 x2 shapeCasts_S24576x1_S24576x1) broadcasts_S24576x1_S24576x7168 (ix2 T n) = x2 (ix2 T 0) := by
    rw [shapeCast_self]
    unfold broadcastTo
    congr 1
    funext a
    match a with
    | ⟨0, _⟩ => rfl
    | ⟨1, _⟩ => rfl
  rw [e1, shapeCast_self, shapeCast_self]
  have e2 := Ideal.matmul_plain_apply (M := 24576) (K := 5120) (N := 7168) (φ₁ := .fp8e4m3) (φ₂ := .fp8e4m3) none x0 x1 (constant S24576x7168 .f32 0x00000000#32) T n
  refine congrArg (fun t : EReal => t * x2 (ix2 T 0) * x3 (ix2 0 n)) (Eq.trans ?_ (e2.trans ?_))
  · rfl
  · rw [constant_apply, Ideal.ofBits_zero_f32]

section Rotary

variable {H : Nat} (v : FVec Ideal ⟨3, ![24576, H, 128]⟩ .f32)
  (h0 : Shape.Slices ⟨3, ![24576, H, 128]⟩ ![0, 0, 0] ⟨3, ![24576, H, 64]⟩)
  (h1 : Shape.Slices ⟨3, ![24576, H, 128]⟩ ![0, 0, 64] ⟨3, ![24576, H, 64]⟩)
  (hc : Shape.Concatenates [⟨3, ![24576, H, 64]⟩, ⟨3, ![24576, H, 64]⟩] ⟨3, ![24576, H, 128]⟩ 2)
  (hb : Shape.Broadcasts ⟨3, ![24576, 1, 128]⟩ ⟨3, ![24576, H, 128]⟩)

/-- Heads with their halves changed over, the second one negated. -/
def turned : FVec Ideal ⟨3, ![24576, H, 128]⟩ .f32 :=
  concatenate ⟨3, ![24576, H, 128]⟩ 2 [⟨⟨3, ![24576, H, 64]⟩, subf (broadcast ⟨3, ![24576, H, 64]⟩ (Scalar.ofBits .f32 0x00000000#32)) (extractStridedSlice ⟨3, ![24576, H, 64]⟩ ![0, 0, 64] v h1)⟩,
    ⟨⟨3, ![24576, H, 64]⟩, extractStridedSlice ⟨3, ![24576, H, 64]⟩ ![0, 0, 0] v h0⟩] hc

theorem turned_apply (T : Fin 24576) (h : Fin H) (l : Fin 128) :
    turned v h0 h1 hc (ix3 T h l)
      = if hl : l.val < 64 then 0 - v (ix3 T h ⟨l.val + 64, by omega⟩) else v (ix3 T h ⟨l.val - 64, by have := l.isLt; omega⟩) := by
  have hlt := l.isLt
  unfold turned
  by_cases hl : l.val < 64
  · rw [dif_pos hl]
    refine (concatenate_pair_apply_left 2 _ _ hc (ix3 T h l) rfl (ix3 T h ⟨l.val, hl⟩)
      (fun b => by match b with | ⟨0, _⟩ => rfl | ⟨1, _⟩ => rfl | ⟨2, _⟩ => rfl)).trans ?_
    rw [subf_apply]
    have e : extractStridedSlice ⟨3, ![24576, H, 64]⟩ ![0, 0, 64] v h1 (ix3 T h ⟨l.val, hl⟩) = v (ix3 T h ⟨l.val + 64, by omega⟩) :=
      extractStridedSlice_apply _ _ _ _ _ (fun a => by
        match a with
        | ⟨0, _⟩ => show T.val = 0 + T.val; omega
        | ⟨1, _⟩ => show h.val = 0 + h.val; omega
        | ⟨2, _⟩ => show l.val + 64 = 64 + l.val; omega)
    rw [e]
    exact congrArg (· - _) Ideal.ofBits_zero_f32
  · rw [dif_neg hl]
    refine (concatenate_pair_apply_right 2 _ _ hc (ix3 T h l) rfl rfl (ix3 T h ⟨l.val - 64, by omega⟩)
      (fun b hb => by match b with | ⟨0, _⟩ => rfl | ⟨1, _⟩ => rfl | ⟨2, _⟩ => exact absurd rfl hb) (show l.val - 64 + 64 = l.val by omega)).trans ?_
    exact extractStridedSlice_apply _ _ _ _ _ (fun a => by
        match a with
        | ⟨0, _⟩ => show T.val = 0 + T.val; omega
        | ⟨1, _⟩ => show h.val = 0 + h.val; omega
        | ⟨2, _⟩ => show l.val - 64 = 0 + (l.val - 64); omega)

/-- The cosines (or sines) of a token, for every head of it. -/
theorem lanes_apply (x : Vec Ideal S24576x128 .f32) (T : Fin 24576) (h : Fin H) (l : Fin 128) :
    broadcastTo ⟨3, ![24576, H, 128]⟩ (shapeCast S24576x1x128 (shapeCast S24576x128 x shapeCasts_S24576x128_S24576x128) shapeCasts_S24576x128_S24576x1x128) hb (ix3 T h l)
      = x (ix2 T l) := by
  rw [shapeCast_self]
  refine (broadcastTo_apply _ hb (ix3 T h l) (ix3 T 0 l) (fun a => by match a with | ⟨0, _⟩ => rfl | ⟨1, _⟩ => rfl | ⟨2, _⟩ => rfl)).trans ?_
  refine shapeCast_apply _ _ _ _ ?_
  rw [Shape.rowMajor_val_two, Shape.rowMajor_val_three]
  show T.val * 128 + l.val = (T.val * 1 + 0) * 128 + l.val
  omega

/-- A group of heads out of the 7168 columns. -/
theorem heads_apply {W : Nat} (o : Nat) (P : FVec Ideal S24576x7168 .f32) (hs : S24576x7168.Slices ![0, o] ⟨2, ![24576, W]⟩)
    (hcast : Shape.ShapeCasts ⟨2, ![24576, W]⟩ ⟨3, ![24576, H, 128]⟩) (hW : W = 128 * H) (ho : o + W ≤ 7168) (T : Fin 24576) (h : Fin H) (l : Fin 128) :
    shapeCast ⟨3, ![24576, H, 128]⟩ (extractStridedSlice ⟨2, ![24576, W]⟩ ![0, o] P hs) hcast (ix3 T h l)
      = P (ix2 T (colT (o + 128 * h.val + l.val))) := by
  have hh := h.isLt
  have hl := l.isLt
  have hlt : 128 * h.val + l.val < W := by omega
  refine (shapeCast_apply _ _ _ (ix2 T ⟨128 * h.val + l.val, hlt⟩) ?_).trans ?_
  · rw [Shape.rowMajor_val_two, Shape.rowMajor_val_three]
    show T.val * W + (128 * h.val + l.val) = (T.val * H + h.val) * 128 + l.val
    rw [hW]; ring
  · refine extractStridedSlice_apply _ _ _ _ _ (fun a => ?_)
    match a with
    | ⟨0, _⟩ => show T.val = 0 + T.val; omega
    | ⟨1, _⟩ => show (o + 128 * h.val + l.val) % 7168 = o + (128 * h.val + l.val); omega

/-- The rotary embedding of token `T`'s 128 columns from `o`. -/
def rotR (P : FVec Ideal S24576x7168 .f32) (cos sin : Vec Ideal S24576x128 .f32) (o : Nat) (T : Fin 24576) (l : Fin 128) : EReal :=
  if l.val < 64 then
    P (ix2 T (colT (o + l.val))) * cos (ix2 T l) + (0 - P (ix2 T (colT (o + (l.val + 64))))) * sin (ix2 T l)
  else
    P (ix2 T (colT (o + l.val))) * cos (ix2 T l) + P (ix2 T (colT (o + (l.val - 64)))) * sin (ix2 T l)

theorem rotary_apply (o : Nat) (P : FVec Ideal S24576x7168 .f32) (hv : ∀ (T : Fin 24576) (h : Fin H) (l : Fin 128), v (ix3 T h l) = P (ix2 T (colT (o + 128 * h.val + l.val))))
    (T : Fin 24576) (h : Fin H) (l : Fin 128) :
    addf (mulf v (broadcastTo ⟨3, ![24576, H, 128]⟩ (shapeCast S24576x1x128 (shapeCast S24576x128 x4 shapeCasts_S24576x128_S24576x128) shapeCasts_S24576x128_S24576x1x128) hb))
      (mulf (turned v h0 h1 hc) (broadcastTo ⟨3, ![24576, H, 128]⟩ (shapeCast S24576x1x128 (shapeCast S24576x128 x5 shapeCasts_S24576x128_S24576x128) shapeCasts_S24576x128_S24576x1x128) hb))
      (ix3 T h l) = rotR P x4 x5 (o + 128 * h.val) T l := by
  rw [addf_apply, mulf_apply, mulf_apply, lanes_apply, lanes_apply, turned_apply, hv]
  unfold rotR
  by_cases hl : l.val < 64
  · rw [dif_pos hl, if_pos hl, hv]
  · rw [dif_neg hl, if_neg hl, hv]

end Rotary

/-- What the body stores as q, -/
theorem storeQ_apply (i : S983040x128.Idx) :
    k0_pay7 (F := Ideal) x0 x1 x2 x3 x4 x5 i
      = rotR (k0_pay4 (F := Ideal) x0 x1 x2 x3) x4 x5 (128 * ((i 0).val % 40)) ⟨(i 0).val / 40, Nat.div_lt_of_lt_mul (i 0).isLt⟩ (i 1) := by
  have hi : (i 0).val < 983040 := (i 0).isLt
  unfold k0_pay7
  generalize k0_pay4 (F := Ideal) x0 x1 x2 x3 = P
  refine (shapeCast_apply _ _ _ (ix3 (⟨(i 0).val / 40, Nat.div_lt_of_lt_mul hi⟩ : Fin 24576) (⟨(i 0).val % 40, Nat.mod_lt _ (by omega)⟩ : Fin 40) (i 1 : Fin 128)) ?_).trans ?_
  · rw [Shape.rowMajor_val_two, Shape.rowMajor_val_three]
    show ((i 0).val / 40 * 40 + (i 0).val % 40) * 128 + (i 1).val = (i 0).val * 128 + (i 1).val
    omega
  · refine (rotary_apply x4 x5 (H := 40) _ slices_S24576x40x128_o0_0_0_S24576x40x64 slices_S24576x40x128_o0_0_64_S24576x40x64
      concatenates_S24576x40x64_S24576x40x64_S24576x40x128_d2 broadcasts_S24576x1x128_S24576x40x128 0 P
      (fun T h l => heads_apply 0 P slices_S24576x7168_o0_0_S24576x5120 shapeCasts_S24576x5120_S24576x40x128 rfl (by omega) T h l) _ _ _).trans ?_
    rw [Nat.zero_add]

/-- as k, -/
theorem storeK_apply (i : S196608x128.Idx) :
    k0_pay1 (F := Ideal) (k0_pay5 x0 x1 x2 x3) (k0_pay8 x0 x1 x2 x3) x4 x5 i
      = rotR (k0_pay4 (F := Ideal) x0 x1 x2 x3) x4 x5 (5120 + 128 * ((i 0).val % 8)) ⟨(i 0).val / 8, Nat.div_lt_of_lt_mul (i 0).isLt⟩ (i 1) := by
  have hi : (i 0).val < 196608 := (i 0).isLt
  unfold k0_pay1 k0_pay8 k0_pay5
  generalize k0_pay4 (F := Ideal) x0 x1 x2 x3 = P
  refine (shapeCast_apply _ _ _ (ix3 (⟨(i 0).val / 8, Nat.div_lt_of_lt_mul hi⟩ : Fin 24576) (⟨(i 0).val % 8, Nat.mod_lt _ (by omega)⟩ : Fin 8) (i 1 : Fin 128)) ?_).trans ?_
  · rw [Shape.rowMajor_val_two, Shape.rowMajor_val_three]
    show ((i 0).val / 8 * 8 + (i 0).val % 8) * 128 + (i 1).val = (i 0).val * 128 + (i 1).val
    omega
  · exact rotary_apply x4 x5 (H := 8) _ slices_S24576x8x128_o0_0_0_S24576x8x64 slices_S24576x8x128_o0_0_64_S24576x8x64
      concatenates_S24576x8x64_S24576x8x64_S24576x8x128_d2 broadcasts_S24576x1x128_S24576x8x128 5120 P
      (fun T h l => heads_apply 5120 P slices_S24576x7168_o0_5120_S24576x1024 shapeCasts_S24576x1024_S24576x8x128 rfl (by omega) T h l) _ _ _

/-- as v, -/
theorem storeV_apply (i : S196608x128.Idx) :
    k0_pay2 (F := Ideal) (k0_pay6 x0 x1 x2 x3) i
      = k0_pay4 (F := Ideal) x0 x1 x2 x3 (ix2 ⟨(i 0).val / 8, Nat.div_lt_of_lt_mul (i 0).isLt⟩ (colT (6144 + 128 * ((i 0).val % 8) + (i 1).val))) := by
  have hi : (i 0).val < 196608 := (i 0).isLt
  unfold k0_pay2 k0_pay6
  generalize k0_pay4 (F := Ideal) x0 x1 x2 x3 = P
  refine (shapeCast_apply _ _ _ (ix3 (⟨(i 0).val / 8, Nat.div_lt_of_lt_mul hi⟩ : Fin 24576) (⟨(i 0).val % 8, Nat.mod_lt _ (by omega)⟩ : Fin 8) (i 1 : Fin 128)) ?_).trans ?_
  · rw [Shape.rowMajor_val_two, Shape.rowMajor_val_three]
    show ((i 0).val / 8 * 8 + (i 0).val % 8) * 128 + (i 1).val = (i 0).val * 128 + (i 1).val
    omega
  · exact heads_apply 6144 P slices_S24576x7168_o0_6144_S24576x1024 shapeCasts_S24576x1024_S24576x8x128 rfl (by omega) _ _ _

/-- and as codes. -/
theorem storeC_eq : k0_pay3 (F := Ideal) x0 = x0 := by
  unfold k0_pay3
  rw [shapeCast_self]
  rfl

/-! ## The four blocks -/

theorem out6_apply (i : S983040x128.Idx) :
    out0_6 (F := Ideal) x0 x1 x2 x3 x4 x5 i
      = rotR (k0_pay4 (F := Ideal) x0 x1 x2 x3) x4 x5 (128 * ((i 0).val % 40)) ⟨(i 0).val / 40, Nat.div_lt_of_lt_mul (i 0).isLt⟩ (i 1) := by
  have hz : (![0, 0] : Fin 2 → Nat) = fun _ => 0 := by funext a; fin_cases a <;> rfl
  unfold out0_6
  rw [show View.ld x0 r0_0 = x0 from View.ld_unit_zero hz _ _, show View.ld x1 r0_1 = x1 from View.ld_unit_zero hz _ _,
    show View.ld x2 r0_2 = x2 from View.ld_unit_zero hz _ _, show View.ld x3 r0_3 = x3 from View.ld_unit_zero hz _ _,
    show View.ld x4 r0_4 = x4 from View.ld_unit_zero hz _ _, show View.ld x5 r0_4 = x5 from View.ld_unit_zero hz _ _,
    ← storeQ_apply]
  exact congrFun (View.canon_unit_zero hz _ _) i

theorem out7_apply (i : S196608x128.Idx) :
    out0_7 (F := Ideal) x0 x1 x2 x3 x4 x5 i
      = rotR (k0_pay4 (F := Ideal) x0 x1 x2 x3) x4 x5 (5120 + 128 * ((i 0).val % 8)) ⟨(i 0).val / 8, Nat.div_lt_of_lt_mul (i 0).isLt⟩ (i 1) := by
  have hz : (![0, 0] : Fin 2 → Nat) = fun _ => 0 := by funext a; fin_cases a <;> rfl
  unfold out0_7
  rw [show View.ld x0 r0_0 = x0 from View.ld_unit_zero hz _ _, show View.ld x1 r0_1 = x1 from View.ld_unit_zero hz _ _,
    show View.ld x2 r0_2 = x2 from View.ld_unit_zero hz _ _, show View.ld x3 r0_3 = x3 from View.ld_unit_zero hz _ _,
    show View.ld x4 r0_4 = x4 from View.ld_unit_zero hz _ _, show View.ld x5 r0_4 = x5 from View.ld_unit_zero hz _ _,
    ← storeK_apply]
  exact congrFun (View.canon_unit_zero hz _ _) i

theorem out8_apply (i : S196608x128.Idx) :
    out0_8 (F := Ideal) x0 x1 x2 x3 x4 x5 i
      = k0_pay4 (F := Ideal) x0 x1 x2 x3 (ix2 ⟨(i 0).val / 8, Nat.div_lt_of_lt_mul (i 0).isLt⟩ (colT (6144 + 128 * ((i 0).val % 8) + (i 1).val))) := by
  have hz : (![0, 0] : Fin 2 → Nat) = fun _ => 0 := by funext a; fin_cases a <;> rfl
  unfold out0_8
  rw [show View.ld x0 r0_0 = x0 from View.ld_unit_zero hz _ _, show View.ld x1 r0_1 = x1 from View.ld_unit_zero hz _ _,
    show View.ld x2 r0_2 = x2 from View.ld_unit_zero hz _ _, show View.ld x3 r0_3 = x3 from View.ld_unit_zero hz _ _,
    ← storeV_apply]
  exact congrFun (View.canon_unit_zero hz _ _) i

theorem out9_apply (i : S24576x5120.Idx) : out0_9 (F := Ideal) x0 x1 x2 x3 x4 x5 i = x0 i := by
  have hz : (![0, 0] : Fin 2 → Nat) = fun _ => 0 := by funext a; fin_cases a <;> rfl
  unfold out0_9
  rw [show View.ld x0 r0_0 = x0 from View.ld_unit_zero hz _ _, storeC_eq]
  exact congrFun (View.canon_unit_zero hz _ _) i

end Cert.ReferenceIdeal.Val

end
-- ==== Proof.Value.RefHost.lean ====
module

public import proofs.«01_k».proof.Proof.Value.RefBody
public import Idealize.ShloMosaic.Lib.StableHlo.ReadAt

/-!
  The arrays that the reference's host code leaves for its body, as expressions over the arguments: the normed rows `hV`,
  their maxima over 448 `yV`, the exponent `eV`, a power of two `p2V`, the clipped rows `clipV`, the angles `angV`.
-/

@[expose] public section

set_option maxRecDepth 16384

noncomputable section

namespace Cert.ReferenceIdeal.Val

open Idealize.ShloMosaic
open Idealize.ShloMosaic.TcCoe Idealize.ShloMosaic.ValueIdx
open Cert.ReferenceIdeal.Gen Cert.Quant

variable {F : FTy → Type} [FloatOps F]

/-- A number in each of the 24576 rows. -/
abbrev rows (b : BitVec 32) : FVec F S24576x1 .f32 := broadcastInDim S24576x1 ![] bcast_S_S24576x1 (constant S_ .f32 b)

/-- x as a matrix of f32, -/
def xV (x : Vec F S3x8192x5120 .bf16) : FVec F S24576x5120 .f32 :=
  extf .f32 (shapeCast S24576x5120 x shapeCasts_S3x8192x5120_S24576x5120 : FVec F S24576x5120 .bf16) bitsLt_bf16_f32

/-- its normed rows, -/
def hV (X : FVec F S24576x5120 .f32) (g : FVec F S5120 .f32) : FVec F S24576x5120 .f32 :=
  mulf (mulf X (broadcastInDim S24576x5120 ![0, 1] bcast_S24576x1_S24576x5120_0_1
      (Host.rsqrt (addf (Host.divf (broadcastInDim S24576x1 ![0] bcast_S24576_S24576x1_0
          (Host.reduceAdd (mulf X X) (constant S_ .f32 0x00000000#32) reducesTo_S24576x5120_S24576_d1 h_S_)) (rows 0x45A00000#32)) (rows 0x358637BD#32)))))
    (broadcastInDim S24576x5120 ![0, 1] bcast_S1x5120_S24576x5120_0_1 (broadcastInDim S1x5120 ![1] bcast_S5120_S1x5120_1 g))

/-- the maximum of each over 448, -/
def yV (h : FVec F S24576x5120 .f32) : FVec F S24576x1 .f32 :=
  mulf (broadcastInDim S24576x1 ![0] bcast_S24576_S24576x1_0
      (Host.reduce FloatOps.maximumf (Host.absf h) (constant S_ .f32 0xFF800000#32) reducesTo_S24576x5120_S24576_d1 h_S_)) (rows 0x3B124925#32)

/-- the 254 exponents, -/
def candV : FVec F S1x254 .f32 :=
  shapeCast S1x254 (addf (broadcastInDim S254 ![] bcast_S_S254 (constant S_ .f32 0xC2FC0000#32)) (sitofp .f32 (iotaInDim S254 32 0)) : FVec F S254 .f32) shapeCasts_S254_S1x254

/-- those of them that do not exceed `y`, -/
def fitV (y : FVec F S24576x1 .f32) : FVec F S24576x254 .f32 :=
  select (cmpf .ole (broadcastInDim S24576x254 ![0, 1] bcast_S1x254_S24576x254_0_1
        (Host.powf (broadcastInDim S1x254 ![] bcast_S_S1x254 (constant S_ .f32 0x40000000#32)) candV))
      (broadcastInDim S24576x254 ![0, 1] bcast_S24576x1_S24576x254_0_1 y))
    (broadcastInDim S24576x254 ![0, 1] bcast_S1x254_S24576x254_0_1 candV)
    (broadcastInDim S24576x254 ![] bcast_S_S24576x254 (constant S_ .f32 0xC2FE0000#32))

/-- the exponent of the scale, -/
def eV (y : FVec F S24576x1 .f32) : FVec F S24576x1 .f32 :=
  select (ori (cmpf .olt y (rows 0x00800000#32)) (cmpf .oeq y (rows 0x7F800000#32))) (rows 0x00000000#32)
    (addf (broadcastInDim S24576x1 ![0] bcast_S24576_S24576x1_0
      (Host.reduce FloatOps.maximumf (fitV y) (constant S_ .f32 0xFF800000#32) reducesTo_S24576x254_S24576_d1 h_S_)) (rows 0x3F800000#32))

/-- two to the power `e`, -/
def p2V (e : FVec F S24576x1 .f32) : FVec F S24576x1 .f32 :=
  select (cmpf .ogt e (rows 0x42FE0000#32)) (rows 0x7F800000#32)
    (select (cmpf .olt e (rows 0xC2FC0000#32)) (rows 0x00000000#32) (Host.powf (rows 0x40000000#32) e))

/-- and the scaled and clipped rows. -/
def clipV (h : FVec F S24576x5120 .f32) (inv : FVec F S24576x1 .f32) : FVec F S24576x5120 .f32 :=
  minimumf (broadcastInDim S24576x5120 ![] bcast_S_S24576x5120 (constant S_ .f32 0x43E00000#32))
    (maximumf (broadcastInDim S24576x5120 ![] bcast_S_S24576x5120 (constant S_ .f32 0xC3E00000#32))
      (mulf h (broadcastInDim S24576x5120 ![0, 1] bcast_S24576x1_S24576x5120_0_1 inv)))

/-- The 64 frequencies, -/
def freqV : FVec F S64 .f32 :=
  Host.powf (broadcastInDim S64 ![] bcast_S_S64 (constant S_ .f32 0x461C4000#32))
    (Host.divf (Host.negf (addf (broadcastInDim S64 ![] bcast_S_S64 (constant S_ .f32 0x00000000#32))
        (mulf (broadcastInDim S64 ![] bcast_S_S64 (constant S_ .f32 0x40000000#32)) (sitofp .f32 (iotaInDim S64 32 0)))))
      (broadcastInDim S64 ![] bcast_S_S64 (constant S_ .f32 0x43000000#32)))

/-- the angles of 64 lanes, -/
def halfV (p : Vec F S3x8192 .i32) : FVec F S24576x64 .f32 :=
  mulf (broadcastInDim S24576x64 ![0, 1] bcast_S24576x1_S24576x64_0_1 (sitofp .f32 (shapeCast S24576x1 p shapeCasts_S3x8192_S24576x1 : IVec S24576x1 32)))
    (broadcastInDim S24576x64 ![0, 1] bcast_S1x64_S24576x64_0_1 (broadcastInDim S1x64 ![1] bcast_S64_S1x64_1 freqV))

/-- and of 128. -/
def angV (p : Vec F S3x8192 .i32) : FVec F S24576x128 .f32 :=
  concatenate S24576x128 1 [⟨S24576x64, halfV p⟩, ⟨S24576x64, halfV p⟩] concatenates_S24576x64_S24576x64_S24576x128_d1

variable (m : (ℓ : Loc nD τ sig) → Buf (Elt F) ℓ) (c : Dev nD)

/-- The arguments. -/
abbrev aX : Vec F S3x8192x5120 .bf16 := m ((c : Thread nD τ).loc main_arg0)
abbrev aG : Vec F S5120 .f32 := m ((c : Thread nD τ).loc main_arg1)
abbrev aW : Vec F S5120x7168 .fp8e4m3 := m ((c : Thread nD τ).loc main_arg2)
abbrev aS : Vec F S7168 .f32 := m ((c : Thread nD τ).loc main_arg3)
abbrev aP : Vec F S3x8192 .i32 := m ((c : Thread nD τ).loc main_arg4)

/-- The normed rows of the arguments, and their exponent. -/
abbrev hA : FVec F S24576x5120 .f32 := hV (xV (aX m c)) (aG m c)
abbrev eA : FVec F S24576x1 .f32 := eV (yV (hA m c))

theorem V_ws : V m c main_v77 = shapeCast S1x7168 (aS m c) shapeCasts_S7168_S1x7168 := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  after_reads_simp
  rfl

theorem V_scale : V m c main_v47 = p2V (eA m c) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  after_reads_simp
  rfl

theorem V_clip : V m c main_v59 = clipV (hA m c) (p2V (Host.negf (eA m c))) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  after_reads_simp
  rfl

theorem V_cos : V m c main_v78 = Host.cos (angV (aP m c)) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  after_reads_simp
  rfl

theorem V_sin : V m c main_v79 = Host.sin (angV (aP m c)) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14
  after_reads_simp
  rfl

end Cert.ReferenceIdeal.Val

end
-- ==== Proof.Value.RefIn.lean ====
module

public import proofs.«01_k».proof.Proof.Value.RefHost
public import Idealize.ShloMosaic.Lib.KernelVsHost
public import Idealize.ShloMosaic.Lib.ValueIdxCoords

/-!
  The reference's arrays, element by element over the extended reals: they are the specification's functions of the
  arguments.
-/

@[expose] public section

set_option maxRecDepth 16384

noncomputable section

namespace Cert.ReferenceIdeal.Val

open Idealize.ShloMosaic hiding ix0 ix1 ix2 ix3
open Idealize.ShloMosaic.TcCoe Idealize.ShloMosaic.ValueIdx
open Cert.ReferenceIdeal.Gen Cert.Quant

theorem reduces_rows : S24576x5120.Reduces [1] S24576 := by decide
theorem reduces_cand : S24576x254.Reduces [1] S24576 := by decide

theorem lift_rows (T : Fin 24576) (k : Fin 5120) : reduces_rows.lift (ix1 T) k = ix2 T k := by
  funext a
  apply Fin.ext
  match a with
  | ⟨0, _⟩ => rfl
  | ⟨1, _⟩ => rfl

theorem lift_cand (T : Fin 24576) (k : Fin 254) : reduces_cand.lift (ix1 T) k = ix2 T k := by
  funext a
  apply Fin.ext
  match a with
  | ⟨0, _⟩ => rfl
  | ⟨1, _⟩ => rfl

/-- A column of row sums or maxima, read at a row. -/
theorem column_apply (v : FVec Ideal S24576 .f32) (T : Fin 24576) (z : Fin 1) :
    broadcastInDim S24576x1 ![0] bcast_S24576_S24576x1_0 v (ix2 T z) = v (ix1 T) :=
  broadcastInDim_apply _ _ _ _ _ (fun a => by match a with | ⟨0, _⟩ => rfl)

/-- A column spread over the 5120 lanes. -/
theorem spread_apply (v : FVec Ideal S24576x1 .f32) (T : Fin 24576) (k : Fin 5120) :
    broadcastInDim S24576x5120 ![0, 1] bcast_S24576x1_S24576x5120_0_1 v (ix2 T k) = v (ix2 T 0) :=
  broadcastInDim_apply _ _ _ _ _ (fun a => by match a with | ⟨0, _⟩ => rfl | ⟨1, _⟩ => rfl)

theorem gain_apply (g : FVec Ideal S5120 .f32) (T : Fin 24576) (k : Fin 5120) :
    broadcastInDim S24576x5120 ![0, 1] bcast_S1x5120_S24576x5120_0_1 (broadcastInDim S1x5120 ![1] bcast_S5120_S1x5120_1 g) (ix2 T k) = g (ix1 k) :=
  (broadcastInDim_apply _ _ _ _ (ix2 0 k) (fun a => by match a with | ⟨0, _⟩ => rfl | ⟨1, _⟩ => rfl)).trans
    (broadcastInDim_apply _ _ _ _ (ix1 k) (fun a => by match a with | ⟨0, _⟩ => rfl))

theorem rows_apply (b : BitVec 32) (T : Fin 24576) : rows (F := Ideal) b (ix2 T 0) = Ideal.ofBits .f32 b := rfl

theorem lanes_const (b : BitVec 32) (i : S24576x5120.Idx) :
    broadcastInDim S24576x5120 ![] bcast_S_S24576x5120 (constant (F := Ideal) S_ .f32 b) i = Ideal.ofBits .f32 b := rfl

theorem hostNeg_apply {s : Shape} (v : FVec Ideal s .f32) (i : s.Idx) : Host.negf v i = -(v i) := rfl
theorem hostAbs_apply {s : Shape} (v : FVec Ideal s .f32) (i : s.Idx) : Host.absf v i = max (v i) (-(v i)) := rfl
theorem hostRsqrt_apply {s : Shape} (v : FVec Ideal s .f32) (i : s.Idx) : Host.rsqrt v i = Ideal.rsqrt (v i) := rfl
theorem hostDiv_apply {s : Shape} (v w : FVec Ideal s .f32) (i : s.Idx) : Host.divf v w i = Ideal.div (v i) (w i) := rfl

theorem rowSum_apply (X : FVec Ideal S24576x5120 .f32) (T : Fin 24576) :
    Host.reduceAdd X (constant S_ .f32 0x00000000#32) reducesTo_S24576x5120_S24576_d1 h_S_ (ix1 T) = ∑ k : Fin 5120, X (ix2 T k) := by
  refine (Ideal.hostReduceAdd_single reducesTo_S24576x5120_S24576_d1 reduces_rows X (Ideal.ofBits .f32 0x00000000#32) (ix1 T)).trans ?_
  rw [Ideal.ofBits_zero_f32, zero_add]
  exact Finset.sum_congr rfl fun (k : Fin 5120) _ => congrArg X (lift_rows T k)

theorem rowMax_apply (X : FVec Ideal S24576x5120 .f32) (T : Fin 24576) :
    Host.reduce (FloatOps.maximumf (F := Ideal)) X (constant S_ .f32 0xFF800000#32) reducesTo_S24576x5120_S24576_d1 h_S_ (ix1 T)
      = (Finset.univ : Finset (Fin 5120)).fold max (Ideal.ofBits .f32 0xFF800000#32) (fun k => X (ix2 T k)) := by
  rw [hostReduce_maximumf_eq_multiReduction X 0xFF800000#32 _ _ reduces_rows (.inl rfl) rfl]
  refine (Ideal.multiReduction_maximumf_single X 0xFF800000#32 reduces_rows (.inl rfl) rfl (ix1 T)).trans ?_
  exact congrArg (fun f => (Finset.univ : Finset (Fin 5120)).fold max (Ideal.ofBits .f32 0xFF800000#32) f)
    (funext fun (k : Fin 5120) => congrArg X (lift_rows T k))

theorem candMax_apply (X : FVec Ideal S24576x254 .f32) (T : Fin 24576) :
    Host.reduce (FloatOps.maximumf (F := Ideal)) X (constant S_ .f32 0xFF800000#32) reducesTo_S24576x254_S24576_d1 h_S_ (ix1 T)
      = (Finset.univ : Finset (Fin 254)).fold max (Ideal.ofBits .f32 0xFF800000#32) (fun k => X (ix2 T k)) := by
  rw [hostReduce_maximumf_eq_multiReduction X 0xFF800000#32 _ _ reduces_cand (.inl rfl) rfl]
  refine (Ideal.multiReduction_maximumf_single X 0xFF800000#32 reduces_cand (.inl rfl) rfl (ix1 T)).trans ?_
  exact congrArg (fun f => (Finset.univ : Finset (Fin 254)).fold max (Ideal.ofBits .f32 0xFF800000#32) f)
    (funext fun (k : Fin 254) => congrArg X (lift_cand T k))

section Rows

variable (X : FVec Ideal S24576x5120 .f32) (g : FVec Ideal S5120 .f32) (T : Fin 24576)

theorem hV_apply (k : Fin 5120) : hV X g (ix2 T k) = normR (fun k => X (ix2 T k)) (fun k => g (ix1 k)) k := by
  unfold hV normR
  rw [mulf_apply, mulf_apply, gain_apply, spread_apply]
  rw [hostRsqrt_apply, addf_apply, hostDiv_apply, rows_apply, rows_apply, column_apply, rowSum_apply]
  simp only [mulf_apply]

theorem yV_apply (h : FVec Ideal S24576x5120 .f32) :
    yV h (ix2 T 0) = yOf ((Finset.univ : Finset (Fin 5120)).fold max (Ideal.ofBits .f32 0xFF800000#32) (fun k => max (h (ix2 T k)) (-(h (ix2 T k))))) := by
  unfold yV yOf
  rw [mulf_apply, rows_apply, column_apply, rowMax_apply]
  simp only [hostAbs_apply]

theorem yV_hV : yV (hV X g) (ix2 T 0) = yOf (amaxR (fun k => X (ix2 T k)) (fun k => g (ix1 k))) := by
  rw [yV_apply]
  unfold amaxR
  simp only [hV_apply]

end Rows

section Exponent

variable (y e : FVec Ideal S24576x1 .f32) (T : Fin 24576)

theorem candV_apply (k : Fin 254) : candV (F := Ideal) (ix2 0 k) = cand k := by
  unfold candV
  refine (shapeCast_apply _ _ _ (ix1 k) ?_).trans rfl
  rw [Shape.rowMajor_val_two, Shape.rowMajor_val_one]
  show k.val = 0 * 254 + k.val
  omega

theorem fitV_apply (k : Fin 254) :
    fitV y (ix2 T k) = Scalar.select (Ideal.cmp .ole (Ideal.pow (Ideal.ofBits .f32 0x40000000#32) (cand k)) (y (ix2 T 0))) (cand k) (Ideal.ofBits .f32 0xC2FE0000#32) := by
  have e1 (v : FVec Ideal S1x254 .f32) : broadcastInDim S24576x254 ![0, 1] bcast_S1x254_S24576x254_0_1 v (ix2 T k) = v (ix2 0 k) :=
    broadcastInDim_apply _ _ _ _ _ (fun a => by match a with | ⟨0, _⟩ => rfl | ⟨1, _⟩ => rfl)
  have e2 : broadcastInDim S24576x254 ![0, 1] bcast_S24576x1_S24576x254_0_1 y (ix2 T k) = y (ix2 T 0) :=
    broadcastInDim_apply _ _ _ _ _ (fun a => by match a with | ⟨0, _⟩ => rfl | ⟨1, _⟩ => rfl)
  unfold fitV
  rw [select_apply, cmpf_apply, e1, e1, e2, ← candV_apply]
  rfl

theorem eV_apply : eV y (ix2 T 0) = expR (y (ix2 T 0)) := by
  have h : broadcastInDim S24576x1 ![0] bcast_S24576_S24576x1_0
      (Host.reduce (FloatOps.maximumf (F := Ideal)) (fitV y) (constant S_ .f32 0xFF800000#32) reducesTo_S24576x254_S24576_d1 h_S_) (ix2 T 0) = _ :=
    (column_apply _ T 0).trans (candMax_apply _ T)
  simp only [fitV_apply] at h
  unfold eV expR
  rw [select_apply, addf_apply, h]
  rfl

theorem p2V_apply : p2V e (ix2 T 0) = pow2R (e (ix2 T 0)) := rfl

end Exponent

/-! ## The angles -/

theorem halfV_apply (p : Vec Ideal S3x8192 .i32) (T : Fin 24576) (i : Fin 64) : halfV (F := Ideal) p (ix2 T i) = posT p T * freqT i := by
  have e1 (v : FVec Ideal S24576x1 .f32) : broadcastInDim S24576x64 ![0, 1] bcast_S24576x1_S24576x64_0_1 v (ix2 T i) = v (ix2 T 0) :=
    broadcastInDim_apply _ _ _ _ _ (fun a => by match a with | ⟨0, _⟩ => rfl | ⟨1, _⟩ => rfl)
  have e2 (v : FVec Ideal S64 .f32) : broadcastInDim S24576x64 ![0, 1] bcast_S1x64_S24576x64_0_1 (broadcastInDim S1x64 ![1] bcast_S64_S1x64_1 v) (ix2 T i) = v (ix1 i) :=
    (broadcastInDim_apply _ _ _ _ (ix2 0 i) (fun a => by match a with | ⟨0, _⟩ => rfl | ⟨1, _⟩ => rfl)).trans
      (broadcastInDim_apply _ _ _ _ (ix1 i) (fun a => by match a with | ⟨0, _⟩ => rfl))
  unfold halfV
  rw [mulf_apply, e1, e2]
  refine congrArg₂ (fun a b : EReal => a * b) ?_ rfl
  refine congrArg (fun b : BitVec 32 => ((b.toInt : ℝ) : EReal)) ?_
  refine shapeCast_apply _ _ _ _ ?_
  rw [Shape.rowMajor_val_two, Shape.rowMajor_val_two]
  show T.val / 8192 * 8192 + T.val % 8192 = T.val * 1 + 0
  omega

theorem angV_apply (p : Vec Ideal S3x8192 .i32) (T : Fin 24576) (l : Fin 128) : angV (F := Ideal) p (ix2 T l) = angT p T l := by
  have hl := l.isLt
  unfold angV angT
  by_cases h : l.val < 64
  · refine (concatenate_pair_apply_left 1 (halfV p) (halfV p) _ (ix2 T l) rfl (ix2 T ⟨l.val, h⟩)
      (fun b => by match b with | ⟨0, _⟩ => rfl | ⟨1, _⟩ => rfl)).trans ?_
    rw [halfV_apply]
    exact congrArg (fun i => posT p T * freqT i) (Fin.ext (Nat.mod_eq_of_lt h).symm)
  · refine (concatenate_pair_apply_right 1 (halfV p) (halfV p) _ (ix2 T l) rfl rfl (ix2 T ⟨l.val - 64, by omega⟩)
      (fun b hb => by match b with | ⟨0, _⟩ => rfl | ⟨1, _⟩ => exact absurd rfl hb) (show l.val - 64 + 64 = l.val by omega)).trans ?_
    rw [halfV_apply]
    exact congrArg (fun i => posT p T * freqT i) (Fin.ext (show l.val - 64 = l.val % 64 by omega))

/-! ## The arrays the body is given -/

section Arrays

variable (m : (ℓ : Loc nD τ sig) → Buf (Elt Ideal) ℓ) (c : Dev nD)

theorem xV_apply (x : Vec Ideal S3x8192x5120 .bf16) (T : Fin 24576) (k : Fin 5120) : xV (F := Ideal) x (ix2 T k) = xT x T k := by
  unfold xV
  rw [extf_apply]
  refine shapeCast_apply _ _ _ _ ?_
  rw [Shape.rowMajor_val_two, Shape.rowMajor_val_three]
  show (T.val / 8192 * 8192 + T.val % 8192) * 5120 + k.val = T.val * 5120 + k.val
  omega

theorem xRow_eq (T : Fin 24576) : (fun k => xV (F := Ideal) (aX m c) (ix2 T k)) = xT (aX m c) T := funext fun k => xV_apply _ T k

theorem eA_apply (T : Fin 24576) : eA m c (ix2 T 0) = expR (yOf (amaxR (xT (aX m c) T) (gT (aG m c)))) := by
  unfold eA
  rw [eV_apply, yV_hV, xRow_eq]
  rfl

/-- The scales, -/
theorem arr_scale (T : Fin 24576) : V m c main_v47 (ix2 T 0) = scaleT (aX m c) (aG m c) T := by
  rw [V_scale, p2V_apply, eA_apply]
  rfl

/-- the rows that become the codes, -/
theorem arr_codes (T : Fin 24576) (k : Fin 5120) : V m c main_v59 (ix2 T k) = codeT (aX m c) (aG m c) T k := by
  have e1 : hA m c (ix2 T k) = normR (xT (aX m c) T) (gT (aG m c)) k := by
    unfold hA
    rw [hV_apply, xRow_eq]
    rfl
  have e2 : p2V (Host.negf (eA m c)) (ix2 T 0) = invR (amaxR (xT (aX m c) T) (gT (aG m c))) := by
    rw [p2V_apply, hostNeg_apply, eA_apply]
    rfl
  unfold codeT codeR codeWith
  rw [V_clip]
  unfold clipV
  rw [minimumf_apply, maximumf_apply, mulf_apply, spread_apply, e1, e2, lanes_const, lanes_const]

/-- the weights' scales, -/
theorem arr_ws (n : Fin 7168) : V m c main_v77 (ix2 0 n) = aS m c (ix1 n) := by
  rw [V_ws]
  refine shapeCast_apply _ _ _ _ ?_
  rw [Shape.rowMajor_val_two, Shape.rowMajor_val_one]
  show n.val = 0 * 7168 + n.val
  omega

/-- the cosines and the sines. -/
theorem arr_cos (T : Fin 24576) (l : Fin 128) : V m c main_v78 (ix2 T l) = Ideal.cos (angT (aP m c) T l) := by
  rw [V_cos]
  exact congrArg Ideal.cos (angV_apply _ T l)

theorem arr_sin (T : Fin 24576) (l : Fin 128) : V m c main_v79 (ix2 T l) = Ideal.sin (angT (aP m c) T l) := by
  rw [V_sin]
  exact congrArg Ideal.sin (angV_apply _ T l)

end Arrays

end Cert.ReferenceIdeal.Val

end
-- ==== Proof.Value.RefOut.lean ====
module

public import proofs.«01_k».proof.Proof.Value.RefIn
public import Idealize.ShloMosaic.Lib.Pipeline.ValueKit.Geometry

/-!
  The reference's five arrays after the run are `qT`, `kT`, `vT`, `codesT`, `scalesT` of the arguments. Its body has one
  grid point and is given whole arrays.
-/

@[expose] public section

set_option maxRecDepth 16384

noncomputable section

namespace Cert.ReferenceIdeal.Val

open Idealize.ShloMosaic hiding ix0 ix1 ix2 ix3
open Idealize.ShloMosaic.TcCoe Idealize.ShloMosaic.ValueIdx
open Cert.ReferenceIdeal.Gen Cert.Quant

variable (m : (ℓ : Loc nD τ sig) → Buf (Elt Ideal) ℓ) (c : Dev nD) (t : Fin cfg0.N)

/-! ## The blocks are the arrays -/

theorem blk0 (i : win0_0.shape.Idx) : iblk m c 0 t i = V m c main_v59 i := by
  show V m c main_v59 ((win0_0.rect t).emb i) = _
  refine congrArg (V m c main_v59) (funext fun a => Fin.ext ?_)
  exact (win0_0.rect_emb_val_of_index_zero t a rfl i)

theorem blk1 (i : win0_1.shape.Idx) : iblk m c 1 t i = V m c main_arg2 i := by
  show V m c main_arg2 ((win0_1.rect t).emb i) = _
  refine congrArg (V m c main_arg2) (funext fun a => Fin.ext ?_)
  exact (win0_1.rect_emb_val_of_index_zero t a rfl i)

theorem read2 (f : Vec Ideal S24576x1 .f32) (i : win0_2.shape.Idx) : ((cfg0.win 2).blk t).view.read (Elt Ideal) f i = f i := by
  show f ((win0_2.rect t).emb i) = _
  refine congrArg f (funext fun a => Fin.ext ?_)
  exact (win0_2.rect_emb_val_of_index_zero t a rfl i)

theorem blk2 (i : win0_2.shape.Idx) : iblk m c 2 t i = V m c main_v47 i := by
  unfold iblk
  exact read2 t (V m c main_v47) i

theorem blk3 (i : win0_3.shape.Idx) : iblk m c 3 t i = V m c main_v77 i := by
  show V m c main_v77 ((win0_3.rect t).emb i) = _
  refine congrArg (V m c main_v77) (funext fun a => Fin.ext ?_)
  exact (win0_3.rect_emb_val_of_index_zero t a rfl i)

theorem blk4 (i : win0_4.shape.Idx) : iblk m c 4 t i = V m c main_v78 i := by
  show V m c main_v78 ((win0_4.rect t).emb i) = _
  refine congrArg (V m c main_v78) (funext fun a => Fin.ext ?_)
  exact (win0_4.rect_emb_val_of_index_zero t a rfl i)

theorem blk5 (i : win0_5.shape.Idx) : iblk m c 5 t i = V m c main_v79 i := by
  show V m c main_v79 ((win0_5.rect t).emb i) = _
  refine congrArg (V m c main_v79) (funext fun a => Fin.ext ?_)
  exact (win0_5.rect_emb_val_of_index_zero t a rfl i)

theorem in0 (T : Fin 24576) (k : Fin 5120) : iblk m c 0 t (ix2 T k) = codeT (aX m c) (aG m c) T k :=
  (blk0 m c t (ix2 T k)).trans (arr_codes m c T k)

theorem in1 (k : Fin 5120) (n : Fin 7168) : iblk m c 1 t (ix2 k n) = aW m c (ix2 k n) :=
  (blk1 m c t (ix2 k n)).trans (congrFun (V_main_arg2 m c) (ix2 k n))

theorem in2 (T : Fin 24576) : iblk m c 2 t (ix2 T 0) = scaleT (aX m c) (aG m c) T :=
  (blk2 m c t (ix2 T 0)).trans (arr_scale m c T)

theorem in3 (n : Fin 7168) : iblk m c 3 t (ix2 0 n) = aS m c (ix1 n) :=
  (blk3 m c t (ix2 0 n)).trans (arr_ws m c n)

theorem in4 (T : Fin 24576) (l : Fin 128) : iblk m c 4 t (ix2 T l) = Ideal.cos (angT (aP m c) T l) :=
  (blk4 m c t (ix2 T l)).trans (arr_cos m c T l)

theorem in5 (T : Fin 24576) (l : Fin 128) : iblk m c 5 t (ix2 T l) = Ideal.sin (angT (aP m c) T l) :=
  (blk5 m c t (ix2 T l)).trans (arr_sin m c T l)

section Body

variable (x : Vec Ideal S3x8192x5120 .bf16) (g : Vec Ideal S5120 .f32) (w : Vec Ideal S5120x7168 .fp8e4m3) (ws : Vec Ideal S7168 .f32) (p : Vec Ideal S3x8192 .i32)
  (x0 : Vec Ideal S24576x5120 .f32) (x1 : Vec Ideal S5120x7168 .fp8e4m3) (x2 : Vec Ideal S24576x1 .f32) (x3 : Vec Ideal S1x7168 .f32)
  (x4 x5 : Vec Ideal S24576x128 .f32)
  (h0 : ∀ T k, x0 (ix2 T k) = codeT x g T k) (h1 : ∀ k n, x1 (ix2 k n) = w (ix2 k n)) (h2 : ∀ T, x2 (ix2 T 0) = scaleT x g T)
  (h3 : ∀ n, x3 (ix2 0 n) = ws (ix1 n)) (h4 : ∀ T l, x4 (ix2 T l) = Ideal.cos (angT p T l)) (h5 : ∀ T l, x5 (ix2 T l) = Ideal.sin (angT p T l))

include h0 h1 h2 h3

/-- The scaled product of token `T` and column `n`, if the body's arrays are the specification's. -/
theorem prodT (T : Fin 24576) (n : Fin 7168) : k0_pay4 (F := Ideal) x0 x1 x2 x3 (ix2 T n) = yT x g w ws T n := by
  have h : ∑ k : Fin 5120, x0 (ix2 T k) * x1 (ix2 k n) = ∑ k : Fin 5120, codeT x g T k * w (ix2 k n) :=
    Finset.sum_congr rfl fun k _ => by rw [h0, h1]
  rw [prodR_apply, h, h2, h3]
  rfl

include h4 h5

/-- The rotary embedding of token `T`'s 128 columns from `o`. -/
theorem rotR_eq (o : Nat) (T : Fin 24576) (l : Fin 128) :
    rotR (k0_pay4 (F := Ideal) x0 x1 x2 x3) x4 x5 o T l = rotT x g w ws p o T l := by
  unfold rotR rotT
  rw [h4, h5]
  simp only [prodT x g w ws x0 x1 x2 x3 h0 h1 h2 h3]

theorem bodyQ (i : S983040x128.Idx) : out0_6 (F := Ideal) x0 x1 x2 x3 x4 x5 i = qT x g w ws p i :=
  (out6_apply x0 x1 x2 x3 x4 x5 i).trans (rotR_eq x g w ws p x0 x1 x2 x3 x4 x5 h0 h1 h2 h3 h4 h5 _ _ _)

theorem bodyK (i : S196608x128.Idx) : out0_7 (F := Ideal) x0 x1 x2 x3 x4 x5 i = kT x g w ws p i :=
  (out7_apply x0 x1 x2 x3 x4 x5 i).trans (rotR_eq x g w ws p x0 x1 x2 x3 x4 x5 h0 h1 h2 h3 h4 h5 _ _ _)

omit h4 h5

theorem bodyV (i : S196608x128.Idx) : out0_8 (F := Ideal) x0 x1 x2 x3 x4 x5 i = vT x g w ws i :=
  (out8_apply x0 x1 x2 x3 x4 x5 i).trans (prodT x g w ws x0 x1 x2 x3 h0 h1 h2 h3 _ _)

omit h1 h2 h3

theorem bodyC (i : S24576x5120.Idx) : out0_9 (F := Ideal) x0 x1 x2 x3 x4 x5 i = codesT x g i :=
  (out9_apply x0 x1 x2 x3 x4 x5 i).trans ((congrArg x0 (ValueIdx.eq_ix2 i)).trans (h0 (i 0) (i 1)))

end Body

/-! ## The arrays -/

theorem out_q : (dats m 0 c).arrAt 6 cfg0.N = qT (aX m c) (aG m c) (aW m c) (aS m c) (aP m c) := by
  refine (dats m 0 c).arrAt_eq_of_covers 6 _ (by decide +kernel) fun t _ y => ?_
  have hy : (win0_6.rect t).emb y = y := funext fun a => Fin.ext (win0_6.rect_emb_val_of_index_zero t a rfl y)
  have hb : out0_6 (F := Ideal) (iblk m c 0 t) (iblk m c 1 t) (iblk m c 2 t) (iblk m c 3 t) (iblk m c 4 t) (iblk m c 5 t) = qT (aX m c) (aG m c) (aW m c) (aS m c) (aP m c) :=
    funext fun i => bodyQ (aX m c) (aG m c) (aW m c) (aS m c) (aP m c) (iblk m c 0 t) (iblk m c 1 t) (iblk m c 2 t) (iblk m c 3 t) (iblk m c 4 t) (iblk m c 5 t) (in0 m c t) (in1 m c t) (in2 m c t) (in3 m c t) (in4 m c t) (in5 m c t) i
  rw [after0_6, hb]
  generalize qT (aX m c) (aG m c) (aW m c) (aS m c) (aP m c) = G
  exact congrArg G hy.symm

theorem out_k : (dats m 0 c).arrAt 7 cfg0.N = kT (aX m c) (aG m c) (aW m c) (aS m c) (aP m c) := by
  refine (dats m 0 c).arrAt_eq_of_covers 7 _ (by decide +kernel) fun t _ y => ?_
  have hy : (win0_7.rect t).emb y = y := funext fun a => Fin.ext (win0_7.rect_emb_val_of_index_zero t a rfl y)
  have hb : out0_7 (F := Ideal) (iblk m c 0 t) (iblk m c 1 t) (iblk m c 2 t) (iblk m c 3 t) (iblk m c 4 t) (iblk m c 5 t) = kT (aX m c) (aG m c) (aW m c) (aS m c) (aP m c) :=
    funext fun i => bodyK (aX m c) (aG m c) (aW m c) (aS m c) (aP m c) (iblk m c 0 t) (iblk m c 1 t) (iblk m c 2 t) (iblk m c 3 t) (iblk m c 4 t) (iblk m c 5 t) (in0 m c t) (in1 m c t) (in2 m c t) (in3 m c t) (in4 m c t) (in5 m c t) i
  rw [after0_7, hb]
  generalize kT (aX m c) (aG m c) (aW m c) (aS m c) (aP m c) = G
  exact congrArg G hy.symm

theorem out_v : (dats m 0 c).arrAt 8 cfg0.N = vT (aX m c) (aG m c) (aW m c) (aS m c) := by
  refine (dats m 0 c).arrAt_eq_of_covers 8 _ (by decide +kernel) fun t _ y => ?_
  have hy : (win0_8.rect t).emb y = y := funext fun a => Fin.ext (win0_8.rect_emb_val_of_index_zero t a rfl y)
  have hb : out0_8 (F := Ideal) (iblk m c 0 t) (iblk m c 1 t) (iblk m c 2 t) (iblk m c 3 t) (iblk m c 4 t) (iblk m c 5 t) = vT (aX m c) (aG m c) (aW m c) (aS m c) :=
    funext fun i => bodyV (aX m c) (aG m c) (aW m c) (aS m c) (iblk m c 0 t) (iblk m c 1 t) (iblk m c 2 t) (iblk m c 3 t) (iblk m c 4 t) (iblk m c 5 t) (in0 m c t) (in1 m c t) (in2 m c t) (in3 m c t) i
  rw [after0_8, hb]
  generalize vT (aX m c) (aG m c) (aW m c) (aS m c) = G
  exact congrArg G hy.symm

theorem out_codes : (dats m 0 c).arrAt 9 cfg0.N = codesT (aX m c) (aG m c) := by
  refine (dats m 0 c).arrAt_eq_of_covers 9 _ (by decide +kernel) fun t _ y => ?_
  have hy : (win0_9.rect t).emb y = y := funext fun a => Fin.ext (win0_9.rect_emb_val_of_index_zero t a rfl y)
  have hb : out0_9 (F := Ideal) (iblk m c 0 t) (iblk m c 1 t) (iblk m c 2 t) (iblk m c 3 t) (iblk m c 4 t) (iblk m c 5 t) = codesT (aX m c) (aG m c) :=
    funext fun i => bodyC (aX m c) (aG m c) (iblk m c 0 t) (iblk m c 1 t) (iblk m c 2 t) (iblk m c 3 t) (iblk m c 4 t) (iblk m c 5 t) (in0 m c t) i
  rw [after0_9, hb]
  generalize codesT (aX m c) (aG m c) = G
  exact congrArg G hy.symm

/-- The scales, which the host code leaves. -/
theorem out_scale : V m c main_v47 = scalesT (aX m c) (aG m c) := by
  funext i
  have hi : i = ix2 (i 0) 0 := by
    rw [ValueIdx.eq_ix2 i]
    exact congrArg (ix2 (i 0)) (Subsingleton.elim (α := Fin 1) _ _)
  rw [hi]
  exact arr_scale m c (i 0)

end Cert.ReferenceIdeal.Val

end
-- ==== Proof.Value.RefEnd.lean ====
module

public import proofs.«01_k».proof.Proof.Value.RefOut

/-!
  What the reference's run leaves: the five results as functions of the arguments, and the arguments.
-/

@[expose] public section

noncomputable section

namespace Cert.ReferenceIdeal.Val

open Idealize.ShloMosaic Idealize.ShloMosaic.TcCoe
open Cert.ReferenceIdeal.Gen Cert.ReferenceIdeal.Value Cert.Quant

variable (m : (ℓ : Loc nD τ sig) → Buf (Elt Ideal) ℓ) (ρ : Dev nD → PrngReg)

/-- The scales, which the body reads and leaves. -/
theorem post_scale (r : PUnit × MemSt nD τ sig (Elt Ideal)) (h : Pipeline.FramePost cfgs (dats m) 0 (V m) r) (c : Dev nD) :
    r.2.mem ((c : Thread nD τ).loc main_v47) = V m c main_v47 :=
  ((h c).1 2).trans (((dats m 0 c).arrAt_in 2 rfl _).trans (A_eq m c 2))

/-- The reference's results and arguments after the run. -/
theorem run_values : θ_run defs (onTc (τ := τ) (main (F := Ideal))) ⟨m, fun _ => 0, ρ⟩ (fun r => ∀ c : Dev nD,
      r.2.mem ((c.tc : Thread nD τ).loc main_v80_0) = qT (aX m c) (aG m c) (aW m c) (aS m c) (aP m c)
      ∧ r.2.mem ((c.tc : Thread nD τ).loc main_v80_1) = kT (aX m c) (aG m c) (aW m c) (aS m c) (aP m c)
      ∧ r.2.mem ((c.tc : Thread nD τ).loc main_v80_2) = vT (aX m c) (aG m c) (aW m c) (aS m c)
      ∧ r.2.mem ((c.tc : Thread nD τ).loc main_v80_3) = codesT (aX m c) (aG m c)
      ∧ r.2.mem ((c.tc : Thread nD τ).loc main_v47) = scalesT (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(post6 m r h c).trans (out_q m c), (post7 m r h c).trans (out_k m c), (post8 m r h c).trans (out_v m c),
     (post9 m r h c).trans (out_codes m c), (post_scale m r h c).trans (out_scale m c),
     kept_main_arg0 m r h c, kept_main_arg1 m r h c, kept_main_arg2 m r h c, kept_main_arg3 m r h c, kept_main_arg4 m r h c⟩)
    (run_main m ρ)

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.BitsBody.Frame
public import proofs.«01_k».proof.Proof.IdealBody.Frame
public import proofs.«01_k».proof.Proof.Value.KernelEnd
public import proofs.«01_k».proof.Proof.Value.RefEnd
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Repacking two bf16 halves as one word, row pairs of a block and all, is the rule's statement at the kernel's shapes. -/
theorem preserves : Cert.preserves_Kernel_KernelIdeal :=
  ⟨IdealRules.bf16_pair.packStatement _, IdealRules.bf16_pair.statement _ _⟩

/-- Over the reals with infinities, kernel and reference leave the same five arrays: both leave `Cert.Quant`'s functions
    of their arguments, and the arguments agree. -/
theorem algebraic : Cert.algebraic_KernelIdeal_ReferenceIdeal (hKernelIdeal := Cert.KernelIdeal.Gen.facts) (hReferenceIdeal := Cert.ReferenceIdeal.Gen.facts) := by
  intro m g m' g' _ h
  refine ⟨_, _, _, _, _, Cert.KernelIdeal.Val.run_values m g, ?_⟩
  refine (θ_run _ _ _).mono (fun r hr c => ?_) (Cert.ReferenceIdeal.Val.run_values m' g')
  obtain ⟨h0, h1, h2, h3, h4⟩ := h c
  obtain ⟨e0, e1, e2, e3, e4, k⟩ := hr c
  refine ⟨e0.trans ?_, e1.trans ?_, e2.trans ?_, e3.trans ?_, e4.trans ?_, k⟩
  · exact congr (congr (congr (congr (congrArg Cert.Quant.qT h0) h1) h2) h3) h4
  · exact congr (congr (congr (congr (congrArg Cert.Quant.kT h0) h1) h2) h3) h4
  · exact congr (congr (congr (congrArg Cert.Quant.vT h0) h1) h2) h3
  · exact congr (congrArg Cert.Quant.codesT h0) h1
  · exact congr (congrArg Cert.Quant.scalesT h0) h1

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Gen.frame m ρ,
  preserves, algebraic⟩

end Cert.Proof

end
